-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S8x108x2x5120 Cert.KernelIdeal.S8x108x1x5120
  ∧ IdealRules.bf16_pair.PackStatement Cert.KernelIdeal.S32x128
  ∧ IdealRules.bf16_pair.Statement Cert.KernelIdeal.S1x32x2x128 Cert.KernelIdeal.S1x32x1x128
  ∧ IdealRules.bf16_pair.PackStatement Cert.KernelIdeal.S12x128
  ∧ IdealRules.bf16_pair.Statement Cert.KernelIdeal.S1x12x2x128 Cert.KernelIdeal.S1x12x1x128
  ∧ IdealRules.bf16_pair.Statement Cert.KernelIdeal.S1x1x2x512 Cert.KernelIdeal.S1x1x1x512
  ∧ IdealRules.bf16_pair.Statement Cert.KernelIdeal.S32x512 Cert.KernelIdeal.S16x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x5120 : Shape := ⟨3, ![1, 128, 5120]⟩
abbrev S5120x108x32 : Shape := ⟨3, ![5120, 108, 32]⟩
abbrev S5120x108x64 : Shape := ⟨3, ![5120, 108, 64]⟩
abbrev S5120x108x12 : Shape := ⟨3, ![5120, 108, 12]⟩
abbrev S5120x108 : Shape := ⟨2, ![5120, 108]⟩
abbrev S128x5120 : Shape := ⟨2, ![128, 5120]⟩
abbrev S108x32x5120 : Shape := ⟨3, ![108, 32, 5120]⟩
abbrev S108x64x5120 : Shape := ⟨3, ![108, 64, 5120]⟩
abbrev S12x108x5120 : Shape := ⟨3, ![12, 108, 5120]⟩
abbrev S108x5120 : Shape := ⟨2, ![108, 5120]⟩
abbrev S128x27648 : Shape := ⟨2, ![128, 27648]⟩
abbrev S4x32x5120 : Shape := ⟨3, ![4, 32, 5120]⟩
abbrev S4x64x5120 : Shape := ⟨3, ![4, 64, 5120]⟩
abbrev S128x1024 : Shape := ⟨2, ![128, 1024]⟩
abbrev S8x108x5120 : Shape := ⟨3, ![8, 108, 5120]⟩
abbrev S1x32x128 : Shape := ⟨3, ![1, 32, 128]⟩
abbrev S32x128 : Shape := ⟨2, ![32, 128]⟩
abbrev S1x12x128 : Shape := ⟨3, ![1, 12, 128]⟩
abbrev S12x128 : Shape := ⟨2, ![12, 128]⟩
abbrev S128x256 : Shape := ⟨2, ![128, 256]⟩
abbrev S1x64x512 : Shape := ⟨3, ![1, 64, 512]⟩
abbrev S64x512 : Shape := ⟨2, ![64, 512]⟩
abbrev S16x512 : Shape := ⟨2, ![16, 512]⟩
abbrev S1x32x512 : Shape := ⟨3, ![1, 32, 512]⟩
abbrev S32x512 : Shape := ⟨2, ![32, 512]⟩
abbrev S8x512 : Shape := ⟨2, ![8, 512]⟩
abbrev S1x1x512 : Shape := ⟨3, ![1, 1, 512]⟩
abbrev S1x512 : Shape := ⟨2, ![1, 512]⟩
abbrev S8x1x512 : Shape := ⟨3, ![8, 1, 512]⟩
abbrev S8x8x512 : Shape := ⟨3, ![8, 8, 512]⟩
abbrev S256x512 : Shape := ⟨2, ![256, 512]⟩
abbrev S128x512 : Shape := ⟨2, ![128, 512]⟩
abbrev S128x128 : Shape := ⟨2, ![128, 128]⟩
abbrev S128x128x1 : Shape := ⟨3, ![128, 128, 1]⟩
abbrev S1x128x27648 : Shape := ⟨3, ![1, 128, 27648]⟩

abbrev nBuf : Space → Nat
  | .hbm => 12
  | .vmem => 10
  | .smem => 0
  | _ => 0

abbrev bufTy : (tb : Table) → Fin (tcTables nBuf tb) → BufTy
  | .hbm, ⟨0, _⟩ => ⟨S1x128x5120, .bf16⟩
  | .hbm, ⟨1, _⟩ => ⟨S5120x108x32, .i8⟩
  | .hbm, ⟨2, _⟩ => ⟨S5120x108x64, .i8⟩
  | .hbm, ⟨3, _⟩ => ⟨S5120x108x12, .i8⟩
  | .hbm, ⟨4, _⟩ => ⟨S5120x108, .f16⟩
  | .hbm, ⟨5, _⟩ => ⟨S128x5120, .bf16⟩
  | .hbm, ⟨6, _⟩ => ⟨S108x32x5120, .i8⟩
  | .hbm, ⟨7, _⟩ => ⟨S108x64x5120, .i8⟩
  | .hbm, ⟨8, _⟩ => ⟨S12x108x5120, .i8⟩
  | .hbm, ⟨9, _⟩ => ⟨S108x5120, .f16⟩
  | .hbm, ⟨10, _⟩ => ⟨S128x27648, .bf16⟩
  | .hbm, ⟨11, _⟩ => ⟨S1x128x27648, .bf16⟩
  | .local _ .vmem, ⟨0, _⟩ => ⟨S128x5120, .bf16⟩
  | .local _ .vmem, ⟨1, _⟩ => ⟨S4x32x5120, .i8⟩
  | .local _ .vmem, ⟨2, _⟩ => ⟨S4x32x5120, .i8⟩
  | .local _ .vmem, ⟨3, _⟩ => ⟨S4x64x5120, .i8⟩
  | .local _ .vmem, ⟨4, _⟩ => ⟨S4x64x5120, .i8⟩
  | .local _ .vmem, ⟨5, _⟩ => ⟨S12x108x5120, .i8⟩
  | .local _ .vmem, ⟨6, _⟩ => ⟨S108x5120, .f16⟩
  | .local _ .vmem, ⟨7, _⟩ => ⟨S128x1024, .bf16⟩
  | .local _ .vmem, ⟨8, _⟩ => ⟨S128x1024, .bf16⟩
  | .local _ .vmem, ⟨9, _⟩ => ⟨S8x108x5120, .i32⟩
  | _, _ => ⟨S1x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [BitOps F]

abbrev grid0 : Pipeline.Grid := ⟨1, ![27], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_3 : BitVec 32 := 0#32
  let c40_i32 : BitVec 32 := 40#32
  let v4 : BitVec 32 := Scalar.addi c0_i32_3 c40_i32
  let c1_i32_4 : BitVec 32 := 1#32
  ⟨c0_i32_3, v4, c1_i32_4⟩
def k0_mult1 (k0_t1 : Fin k0_t1_loop.trips) : BitVec 32 :=
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  v5
def k0_off1 (k0_t1 : Fin k0_t1_loop.trips) : Fin 3 → Nat :=
  let c0 : Index := 0#32
  let c0_6 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v7 : Index := Scalar.indexCast v6
  ![0, 0, v7.toNat]
def k0_off2 (k0_t1 : Fin k0_t1_loop.trips) : Fin 3 → Nat :=
  let c1 : Index := 1#32
  let c0_7 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v11 : Index := Scalar.indexCast v6
  ![1, 0, v11.toNat]
def k0_off3 (k0_t1 : Fin k0_t1_loop.trips) : Fin 3 → Nat :=
  let c2 : Index := 2#32
  let c0_8 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v15 : Index := Scalar.indexCast v6
  ![2, 0, v15.toNat]
def k0_off4 (k0_t1 : Fin k0_t1_loop.trips) : Fin 3 → Nat :=
  let c3 : Index := 3#32
  let c0_9 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v19 : Index := Scalar.indexCast v6
  ![3, 0, v19.toNat]
def k0_off5 (k0_t1 : Fin k0_t1_loop.trips) : Fin 3 → Nat :=
  let c4 : Index := 4#32
  let c0_10 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v23 : Index := Scalar.indexCast v6
  ![4, 0, v23.toNat]
def k0_off6 (k0_t1 : Fin k0_t1_loop.trips) : Fin 3 → Nat :=
  let c5 : Index := 5#32
  let c0_11 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v27 : Index := Scalar.indexCast v6
  ![5, 0, v27.toNat]
def k0_off7 (k0_t1 : Fin k0_t1_loop.trips) : Fin 3 → Nat :=
  let c6 : Index := 6#32
  let c0_12 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v31 : Index := Scalar.indexCast v6
  ![6, 0, v31.toNat]
def k0_off8 (k0_t1 : Fin k0_t1_loop.trips) : Fin 3 → Nat :=
  let c7 : Index := 7#32
  let c0_13 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v35 : Index := Scalar.indexCast v6
  ![7, 0, v35.toNat]
def k0_off9 (k0_t1 : Fin k0_t1_loop.trips) : Fin 3 → Nat :=
  let c8 : Index := 8#32
  let c0_14 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v39 : Index := Scalar.indexCast v6
  ![8, 0, v39.toNat]
def k0_off10 (k0_t1 : Fin k0_t1_loop.trips) : Fin 3 → Nat :=
  let c9 : Index := 9#32
  let c0_15 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v43 : Index := Scalar.indexCast v6
  ![9, 0, v43.toNat]
def k0_off11 (k0_t1 : Fin k0_t1_loop.trips) : Fin 3 → Nat :=
  let c10 : Index := 10#32
  let c0_16 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v47 : Index := Scalar.indexCast v6
  ![10, 0, v47.toNat]
def k0_off12 (k0_t1 : Fin k0_t1_loop.trips) : Fin 3 → Nat :=
  let c11 : Index := 11#32
  let c0_17 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v51 : Index := Scalar.indexCast v6
  ![11, 0, v51.toNat]
def k0_off13 (k0_t1 : Fin k0_t1_loop.trips) : Fin 2 → Nat :=
  let c0_18 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v55 : Index := Scalar.indexCast v6
  ![0, v55.toNat]
def k0_off14 (k0_t1 : Fin k0_t1_loop.trips) : Fin 3 → Nat :=
  let c0_27 : Index := 0#32
  let c0_28 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v92 : Index := Scalar.indexCast v6
  ![0, 0, v92.toNat]
def k0_off15 (k0_t1 : Fin k0_t1_loop.trips) : Fin 3 → Nat :=
  let c1_41 : Index := 1#32
  let c0_42 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v127 : Index := Scalar.indexCast v6
  ![1, 0, v127.toNat]
def k0_off16 (k0_t1 : Fin k0_t1_loop.trips) : Fin 3 → Nat :=
  let c2_55 : Index := 2#32
  let c0_56 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v162 : Index := Scalar.indexCast v6
  ![2, 0, v162.toNat]
def k0_off17 (k0_t1 : Fin k0_t1_loop.trips) : Fin 3 → Nat :=
  let c3_69 : Index := 3#32
  let c0_70 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v197 : Index := Scalar.indexCast v6
  ![3, 0, v197.toNat]
def k0_off18 (k0_t1 : Fin k0_t1_loop.trips) : Fin 3 → Nat :=
  let c4_82 : Index := 4#32
  let c0_83 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v232 : Index := Scalar.indexCast v6
  ![4, 0, v232.toNat]
def k0_off19 (k0_t1 : Fin k0_t1_loop.trips) : Fin 3 → Nat :=
  let c5_96 : Index := 5#32
  let c0_97 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v267 : Index := Scalar.indexCast v6
  ![5, 0, v267.toNat]
def k0_off20 (k0_t1 : Fin k0_t1_loop.trips) : Fin 3 → Nat :=
  let c6_110 : Index := 6#32
  let c0_111 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v302 : Index := Scalar.indexCast v6
  ![6, 0, v302.toNat]
def k0_off21 (k0_t1 : Fin k0_t1_loop.trips) : Fin 3 → Nat :=
  let c7_124 : Index := 7#32
  let c0_125 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v337 : Index := Scalar.indexCast v6
  ![7, 0, v337.toNat]
def k0_off22 (k0_t1 : Fin k0_t1_loop.trips) : Fin 3 → Nat :=
  let c0_126 : Index := 0#32
  let c32 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v341 : Index := Scalar.indexCast v6
  ![0, 32, v341.toNat]
def k0_off23 (k0_t1 : Fin k0_t1_loop.trips) : Fin 3 → Nat :=
  let c1_127 : Index := 1#32
  let c32_128 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v345 : Index := Scalar.indexCast v6
  ![1, 32, v345.toNat]
def k0_off24 (k0_t1 : Fin k0_t1_loop.trips) : Fin 3 → Nat :=
  let c2_129 : Index := 2#32
  let c32_130 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v349 : Index := Scalar.indexCast v6
  ![2, 32, v349.toNat]
def k0_off25 (k0_t1 : Fin k0_t1_loop.trips) : Fin 3 → Nat :=
  let c3_131 : Index := 3#32
  let c32_132 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v353 : Index := Scalar.indexCast v6
  ![3, 32, v353.toNat]
def k0_off26 (k0_t1 : Fin k0_t1_loop.trips) : Fin 3 → Nat :=
  let c4_133 : Index := 4#32
  let c32_134 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v357 : Index := Scalar.indexCast v6
  ![4, 32, v357.toNat]
def k0_off27 (k0_t1 : Fin k0_t1_loop.trips) : Fin 3 → Nat :=
  let c5_135 : Index := 5#32
  let c32_136 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v361 : Index := Scalar.indexCast v6
  ![5, 32, v361.toNat]
def k0_off28 (k0_t1 : Fin k0_t1_loop.trips) : Fin 3 → Nat :=
  let c6_137 : Index := 6#32
  let c32_138 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v365 : Index := Scalar.indexCast v6
  ![6, 32, v365.toNat]
def k0_off29 (k0_t1 : Fin k0_t1_loop.trips) : Fin 3 → Nat :=
  let c7_139 : Index := 7#32
  let c32_140 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v369 : Index := Scalar.indexCast v6
  ![7, 32, v369.toNat]
def k0_off30 (k0_t1 : Fin k0_t1_loop.trips) : Fin 3 → Nat :=
  let c8_141 : Index := 8#32
  let c32_142 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v373 : Index := Scalar.indexCast v6
  ![8, 32, v373.toNat]
def k0_off31 (k0_t1 : Fin k0_t1_loop.trips) : Fin 3 → Nat :=
  let c9_143 : Index := 9#32
  let c32_144 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v377 : Index := Scalar.indexCast v6
  ![9, 32, v377.toNat]
def k0_off32 (k0_t1 : Fin k0_t1_loop.trips) : Fin 3 → Nat :=
  let c10_145 : Index := 10#32
  let c32_146 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v381 : Index := Scalar.indexCast v6
  ![10, 32, v381.toNat]
def k0_off33 (k0_t1 : Fin k0_t1_loop.trips) : Fin 3 → Nat :=
  let c11_147 : Index := 11#32
  let c32_148 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v385 : Index := Scalar.indexCast v6
  ![11, 32, v385.toNat]
def k0_off34 (k0_t1 : Fin k0_t1_loop.trips) : Fin 2 → Nat :=
  let c32_149 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v389 : Index := Scalar.indexCast v6
  ![32, v389.toNat]
def k0_off35 (k0_t1 : Fin k0_t1_loop.trips) : Fin 3 → Nat :=
  let c0_163 : Index := 0#32
  let c32_164 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v426 : Index := Scalar.indexCast v6
  ![0, 32, v426.toNat]
def k0_off36 (k0_t1 : Fin k0_t1_loop.trips) : Fin 3 → Nat :=
  let c1_177 : Index := 1#32
  let c32_178 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v461 : Index := Scalar.indexCast v6
  ![1, 32, v461.toNat]
def k0_off37 (k0_t1 : Fin k0_t1_loop.trips) : Fin 3 → Nat :=
  let c2_191 : Index := 2#32
  let c32_192 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v496 : Index := Scalar.indexCast v6
  ![2, 32, v496.toNat]
def k0_off38 (k0_t1 : Fin k0_t1_loop.trips) : Fin 3 → Nat :=
  let c3_205 : Index := 3#32
  let c32_206 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v531 : Index := Scalar.indexCast v6
  ![3, 32, v531.toNat]
def k0_off39 (k0_t1 : Fin k0_t1_loop.trips) : Fin 3 → Nat :=
  let c4_219 : Index := 4#32
  let c32_220 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v566 : Index := Scalar.indexCast v6
  ![4, 32, v566.toNat]
def k0_off40 (k0_t1 : Fin k0_t1_loop.trips) : Fin 3 → Nat :=
  let c5_233 : Index := 5#32
  let c32_234 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v601 : Index := Scalar.indexCast v6
  ![5, 32, v601.toNat]
def k0_off41 (k0_t1 : Fin k0_t1_loop.trips) : Fin 3 → Nat :=
  let c6_247 : Index := 6#32
  let c32_248 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v636 : Index := Scalar.indexCast v6
  ![6, 32, v636.toNat]
def k0_off42 (k0_t1 : Fin k0_t1_loop.trips) : Fin 3 → Nat :=
  let c7_261 : Index := 7#32
  let c32_262 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v671 : Index := Scalar.indexCast v6
  ![7, 32, v671.toNat]
def k0_off43 (k0_t1 : Fin k0_t1_loop.trips) : Fin 3 → Nat :=
  let c0_263 : Index := 0#32
  let c64 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v675 : Index := Scalar.indexCast v6
  ![0, 64, v675.toNat]
def k0_off44 (k0_t1 : Fin k0_t1_loop.trips) : Fin 3 → Nat :=
  let c1_264 : Index := 1#32
  let c64_265 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v679 : Index := Scalar.indexCast v6
  ![1, 64, v679.toNat]
def k0_off45 (k0_t1 : Fin k0_t1_loop.trips) : Fin 3 → Nat :=
  let c2_266 : Index := 2#32
  let c64_267 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v683 : Index := Scalar.indexCast v6
  ![2, 64, v683.toNat]
def k0_off46 (k0_t1 : Fin k0_t1_loop.trips) : Fin 3 → Nat :=
  let c3_268 : Index := 3#32
  let c64_269 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v687 : Index := Scalar.indexCast v6
  ![3, 64, v687.toNat]
def k0_off47 (k0_t1 : Fin k0_t1_loop.trips) : Fin 3 → Nat :=
  let c4_270 : Index := 4#32
  let c64_271 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v691 : Index := Scalar.indexCast v6
  ![4, 64, v691.toNat]
def k0_off48 (k0_t1 : Fin k0_t1_loop.trips) : Fin 3 → Nat :=
  let c5_272 : Index := 5#32
  let c64_273 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v695 : Index := Scalar.indexCast v6
  ![5, 64, v695.toNat]
def k0_off49 (k0_t1 : Fin k0_t1_loop.trips) : Fin 3 → Nat :=
  let c6_274 : Index := 6#32
  let c64_275 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v699 : Index := Scalar.indexCast v6
  ![6, 64, v699.toNat]
def k0_off50 (k0_t1 : Fin k0_t1_loop.trips) : Fin 3 → Nat :=
  let c7_276 : Index := 7#32
  let c64_277 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v703 : Index := Scalar.indexCast v6
  ![7, 64, v703.toNat]
def k0_off51 (k0_t1 : Fin k0_t1_loop.trips) : Fin 3 → Nat :=
  let c8_278 : Index := 8#32
  let c64_279 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v707 : Index := Scalar.indexCast v6
  ![8, 64, v707.toNat]
def k0_off52 (k0_t1 : Fin k0_t1_loop.trips) : Fin 3 → Nat :=
  let c9_280 : Index := 9#32
  let c64_281 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v711 : Index := Scalar.indexCast v6
  ![9, 64, v711.toNat]
def k0_off53 (k0_t1 : Fin k0_t1_loop.trips) : Fin 3 → Nat :=
  let c10_282 : Index := 10#32
  let c64_283 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v715 : Index := Scalar.indexCast v6
  ![10, 64, v715.toNat]
def k0_off54 (k0_t1 : Fin k0_t1_loop.trips) : Fin 3 → Nat :=
  let c11_284 : Index := 11#32
  let c64_285 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v719 : Index := Scalar.indexCast v6
  ![11, 64, v719.toNat]
def k0_off55 (k0_t1 : Fin k0_t1_loop.trips) : Fin 2 → Nat :=
  let c64_286 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v723 : Index := Scalar.indexCast v6
  ![64, v723.toNat]
def k0_off56 (k0_t1 : Fin k0_t1_loop.trips) : Fin 3 → Nat :=
  let c0_300 : Index := 0#32
  let c64_301 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v760 : Index := Scalar.indexCast v6
  ![0, 64, v760.toNat]
def k0_off57 (k0_t1 : Fin k0_t1_loop.trips) : Fin 3 → Nat :=
  let c1_314 : Index := 1#32
  let c64_315 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v795 : Index := Scalar.indexCast v6
  ![1, 64, v795.toNat]
def k0_off58 (k0_t1 : Fin k0_t1_loop.trips) : Fin 3 → Nat :=
  let c2_328 : Index := 2#32
  let c64_329 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v830 : Index := Scalar.indexCast v6
  ![2, 64, v830.toNat]
def k0_off59 (k0_t1 : Fin k0_t1_loop.trips) : Fin 3 → Nat :=
  let c3_342 : Index := 3#32
  let c64_343 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v865 : Index := Scalar.indexCast v6
  ![3, 64, v865.toNat]
def k0_off60 (k0_t1 : Fin k0_t1_loop.trips) : Fin 3 → Nat :=
  let c4_356 : Index := 4#32
  let c64_357 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v900 : Index := Scalar.indexCast v6
  ![4, 64, v900.toNat]
def k0_off61 (k0_t1 : Fin k0_t1_loop.trips) : Fin 3 → Nat :=
  let c5_370 : Index := 5#32
  let c64_371 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v935 : Index := Scalar.indexCast v6
  ![5, 64, v935.toNat]
def k0_off62 (k0_t1 : Fin k0_t1_loop.trips) : Fin 3 → Nat :=
  let c6_384 : Index := 6#32
  let c64_385 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v970 : Index := Scalar.indexCast v6
  ![6, 64, v970.toNat]
def k0_off63 (k0_t1 : Fin k0_t1_loop.trips) : Fin 3 → Nat :=
  let c7_398 : Index := 7#32
  let c64_399 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1005 : Index := Scalar.indexCast v6
  ![7, 64, v1005.toNat]
def k0_off64 (k0_t1 : Fin k0_t1_loop.trips) : Fin 3 → Nat :=
  let c0_400 : Index := 0#32
  let c96 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1009 : Index := Scalar.indexCast v6
  ![0, 96, v1009.toNat]
def k0_off65 (k0_t1 : Fin k0_t1_loop.trips) : Fin 3 → Nat :=
  let c1_401 : Index := 1#32
  let c96_402 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1013 : Index := Scalar.indexCast v6
  ![1, 96, v1013.toNat]
def k0_off66 (k0_t1 : Fin k0_t1_loop.trips) : Fin 3 → Nat :=
  let c2_403 : Index := 2#32
  let c96_404 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1017 : Index := Scalar.indexCast v6
  ![2, 96, v1017.toNat]
def k0_off67 (k0_t1 : Fin k0_t1_loop.trips) : Fin 3 → Nat :=
  let c3_405 : Index := 3#32
  let c96_406 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1021 : Index := Scalar.indexCast v6
  ![3, 96, v1021.toNat]
def k0_off68 (k0_t1 : Fin k0_t1_loop.trips) : Fin 3 → Nat :=
  let c4_407 : Index := 4#32
  let c96_408 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1025 : Index := Scalar.indexCast v6
  ![4, 96, v1025.toNat]
def k0_off69 (k0_t1 : Fin k0_t1_loop.trips) : Fin 3 → Nat :=
  let c5_409 : Index := 5#32
  let c96_410 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1029 : Index := Scalar.indexCast v6
  ![5, 96, v1029.toNat]
def k0_off70 (k0_t1 : Fin k0_t1_loop.trips) : Fin 3 → Nat :=
  let c6_411 : Index := 6#32
  let c96_412 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1033 : Index := Scalar.indexCast v6
  ![6, 96, v1033.toNat]
def k0_off71 (k0_t1 : Fin k0_t1_loop.trips) : Fin 3 → Nat :=
  let c7_413 : Index := 7#32
  let c96_414 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1037 : Index := Scalar.indexCast v6
  ![7, 96, v1037.toNat]
def k0_off72 (k0_t1 : Fin k0_t1_loop.trips) : Fin 3 → Nat :=
  let c8_415 : Index := 8#32
  let c96_416 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1041 : Index := Scalar.indexCast v6
  ![8, 96, v1041.toNat]
def k0_off73 (k0_t1 : Fin k0_t1_loop.trips) : Fin 3 → Nat :=
  let c9_417 : Index := 9#32
  let c96_418 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1045 : Index := Scalar.indexCast v6
  ![9, 96, v1045.toNat]
def k0_off74 (k0_t1 : Fin k0_t1_loop.trips) : Fin 3 → Nat :=
  let c10_419 : Index := 10#32
  let c96_420 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1049 : Index := Scalar.indexCast v6
  ![10, 96, v1049.toNat]
def k0_off75 (k0_t1 : Fin k0_t1_loop.trips) : Fin 3 → Nat :=
  let c11_421 : Index := 11#32
  let c96_422 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1053 : Index := Scalar.indexCast v6
  ![11, 96, v1053.toNat]
def k0_off76 (k0_t1 : Fin k0_t1_loop.trips) : Fin 2 → Nat :=
  let c96_423 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1057 : Index := Scalar.indexCast v6
  ![96, v1057.toNat]
def k0_off77 (k0_t1 : Fin k0_t1_loop.trips) : Fin 3 → Nat :=
  let c0_437 : Index := 0#32
  let c96_438 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1094 : Index := Scalar.indexCast v6
  ![0, 96, v1094.toNat]
def k0_off78 (k0_t1 : Fin k0_t1_loop.trips) : Fin 3 → Nat :=
  let c1_451 : Index := 1#32
  let c96_452 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1129 : Index := Scalar.indexCast v6
  ![1, 96, v1129.toNat]
def k0_off79 (k0_t1 : Fin k0_t1_loop.trips) : Fin 3 → Nat :=
  let c2_465 : Index := 2#32
  let c96_466 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1164 : Index := Scalar.indexCast v6
  ![2, 96, v1164.toNat]
def k0_off80 (k0_t1 : Fin k0_t1_loop.trips) : Fin 3 → Nat :=
  let c3_479 : Index := 3#32
  let c96_480 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1199 : Index := Scalar.indexCast v6
  ![3, 96, v1199.toNat]
def k0_off81 (k0_t1 : Fin k0_t1_loop.trips) : Fin 3 → Nat :=
  let c4_493 : Index := 4#32
  let c96_494 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1234 : Index := Scalar.indexCast v6
  ![4, 96, v1234.toNat]
def k0_off82 (k0_t1 : Fin k0_t1_loop.trips) : Fin 3 → Nat :=
  let c5_507 : Index := 5#32
  let c96_508 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1269 : Index := Scalar.indexCast v6
  ![5, 96, v1269.toNat]
def k0_off83 (k0_t1 : Fin k0_t1_loop.trips) : Fin 3 → Nat :=
  let c6_521 : Index := 6#32
  let c96_522 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1304 : Index := Scalar.indexCast v6
  ![6, 96, v1304.toNat]
def k0_off84 (k0_t1 : Fin k0_t1_loop.trips) : Fin 3 → Nat :=
  let c7_535 : Index := 7#32
  let c96_536 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1339 : Index := Scalar.indexCast v6
  ![7, 96, v1339.toNat]
@[reducible] def k0_t2_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
@[reducible] def k0_t3_loop : Scf.Loop 32 :=
  let c0_i32_4 : BitVec 32 := 0#32
  let c10_i32 : BitVec 32 := 10#32
  let v7 : BitVec 32 := Scalar.addi c0_i32_4 c10_i32
  let c1_i32_5 : BitVec 32 := 1#32
  ⟨c0_i32_4, v7, c1_i32_5⟩
def k0_mult2 (k0_t3 : Fin k0_t3_loop.trips) : BitVec 32 :=
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  v54
def k0_off85 (k0_t2 : Fin k0_t2_loop.trips) (k0_t3 : Fin k0_t3_loop.trips) : Fin 3 → Nat :=
  let c0_i32_1 : BitVec 32 := 0#32
  let c1_i32 : BitVec 32 := 1#32
  let arg8 : BitVec 32 := Scf.iv c0_i32_1 c1_i32 k0_t2
  let v56 : Index := Scalar.indexCast arg8
  let c0_17 : Index := 0#32
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v57 : Index := Scalar.indexCast v55
  ![v56.toNat, 0, v57.toNat]
def k0_off86 (k0_t2 : Fin k0_t2_loop.trips) (k0_t3 : Fin k0_t3_loop.trips) : Fin 3 → Nat :=
  let c0_i32_1 : BitVec 32 := 0#32
  let c1_i32 : BitVec 32 := 1#32
  let arg8 : BitVec 32 := Scf.iv c0_i32_1 c1_i32 k0_t2
  let v61 : Index := Scalar.indexCast arg8
  let c0_18 : Index := 0#32
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v62 : Index := Scalar.indexCast v55
  ![v61.toNat, 0, v62.toNat]
def k0_off87 (i : grid0.Coords) (k0_t2 : Fin k0_t2_loop.trips) (k0_t3 : Fin k0_t3_loop.trips) : Fin 3 → Nat :=
  let c0_19 : Index := 0#32
  let arg0 : BitVec 32 := BitVec.ofNat 32 (i 0).val
  let c4_i32_3 : BitVec 32 := 4#32
  let v4 : BitVec 32 := Scalar.muli arg0 c4_i32_3
  let c0_i32_1 : BitVec 32 := 0#32
  let c1_i32 : BitVec 32 := 1#32
  let arg8 : BitVec 32 := Scf.iv c0_i32_1 c1_i32 k0_t2
  let v5 : BitVec 32 := Scalar.addi v4 arg8
  let v66 : Index := Scalar.indexCast v5
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v67 : Index := Scalar.indexCast v55
  ![0, v66.toNat, v67.toNat]
def k0_off88 (i : grid0.Coords) (k0_t2 : Fin k0_t2_loop.trips) (k0_t3 : Fin k0_t3_loop.trips) : Fin 3 → Nat :=
  let c1 : Index := 1#32
  let arg0 : BitVec 32 := BitVec.ofNat 32 (i 0).val
  let c4_i32_3 : BitVec 32 := 4#32
  let v4 : BitVec 32 := Scalar.muli arg0 c4_i32_3
  let c0_i32_1 : BitVec 32 := 0#32
  let c1_i32 : BitVec 32 := 1#32
  let arg8 : BitVec 32 := Scf.iv c0_i32_1 c1_i32 k0_t2
  let v5 : BitVec 32 := Scalar.addi v4 arg8
  let v70 : Index := Scalar.indexCast v5
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v71 : Index := Scalar.indexCast v55
  ![1, v70.toNat, v71.toNat]
def k0_off89 (i : grid0.Coords) (k0_t2 : Fin k0_t2_loop.trips) (k0_t3 : Fin k0_t3_loop.trips) : Fin 3 → Nat :=
  let c2 : Index := 2#32
  let arg0 : BitVec 32 := BitVec.ofNat 32 (i 0).val
  let c4_i32_3 : BitVec 32 := 4#32
  let v4 : BitVec 32 := Scalar.muli arg0 c4_i32_3
  let c0_i32_1 : BitVec 32 := 0#32
  let c1_i32 : BitVec 32 := 1#32
  let arg8 : BitVec 32 := Scf.iv c0_i32_1 c1_i32 k0_t2
  let v5 : BitVec 32 := Scalar.addi v4 arg8
  let v74 : Index := Scalar.indexCast v5
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v75 : Index := Scalar.indexCast v55
  ![2, v74.toNat, v75.toNat]
def k0_off90 (i : grid0.Coords) (k0_t2 : Fin k0_t2_loop.trips) (k0_t3 : Fin k0_t3_loop.trips) : Fin 3 → Nat :=
  let c3 : Index := 3#32
  let arg0 : BitVec 32 := BitVec.ofNat 32 (i 0).val
  let c4_i32_3 : BitVec 32 := 4#32
  let v4 : BitVec 32 := Scalar.muli arg0 c4_i32_3
  let c0_i32_1 : BitVec 32 := 0#32
  let c1_i32 : BitVec 32 := 1#32
  let arg8 : BitVec 32 := Scf.iv c0_i32_1 c1_i32 k0_t2
  let v5 : BitVec 32 := Scalar.addi v4 arg8
  let v78 : Index := Scalar.indexCast v5
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v79 : Index := Scalar.indexCast v55
  ![3, v78.toNat, v79.toNat]
def k0_off91 (i : grid0.Coords) (k0_t2 : Fin k0_t2_loop.trips) (k0_t3 : Fin k0_t3_loop.trips) : Fin 3 → Nat :=
  let c4 : Index := 4#32
  let arg0 : BitVec 32 := BitVec.ofNat 32 (i 0).val
  let c4_i32_3 : BitVec 32 := 4#32
  let v4 : BitVec 32 := Scalar.muli arg0 c4_i32_3
  let c0_i32_1 : BitVec 32 := 0#32
  let c1_i32 : BitVec 32 := 1#32
  let arg8 : BitVec 32 := Scf.iv c0_i32_1 c1_i32 k0_t2
  let v5 : BitVec 32 := Scalar.addi v4 arg8
  let v82 : Index := Scalar.indexCast v5
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v83 : Index := Scalar.indexCast v55
  ![4, v82.toNat, v83.toNat]
def k0_off92 (i : grid0.Coords) (k0_t2 : Fin k0_t2_loop.trips) (k0_t3 : Fin k0_t3_loop.trips) : Fin 3 → Nat :=
  let c5 : Index := 5#32
  let arg0 : BitVec 32 := BitVec.ofNat 32 (i 0).val
  let c4_i32_3 : BitVec 32 := 4#32
  let v4 : BitVec 32 := Scalar.muli arg0 c4_i32_3
  let c0_i32_1 : BitVec 32 := 0#32
  let c1_i32 : BitVec 32 := 1#32
  let arg8 : BitVec 32 := Scf.iv c0_i32_1 c1_i32 k0_t2
  let v5 : BitVec 32 := Scalar.addi v4 arg8
  let v86 : Index := Scalar.indexCast v5
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v87 : Index := Scalar.indexCast v55
  ![5, v86.toNat, v87.toNat]
def k0_off93 (i : grid0.Coords) (k0_t2 : Fin k0_t2_loop.trips) (k0_t3 : Fin k0_t3_loop.trips) : Fin 3 → Nat :=
  let c6 : Index := 6#32
  let arg0 : BitVec 32 := BitVec.ofNat 32 (i 0).val
  let c4_i32_3 : BitVec 32 := 4#32
  let v4 : BitVec 32 := Scalar.muli arg0 c4_i32_3
  let c0_i32_1 : BitVec 32 := 0#32
  let c1_i32 : BitVec 32 := 1#32
  let arg8 : BitVec 32 := Scf.iv c0_i32_1 c1_i32 k0_t2
  let v5 : BitVec 32 := Scalar.addi v4 arg8
  let v90 : Index := Scalar.indexCast v5
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v91 : Index := Scalar.indexCast v55
  ![6, v90.toNat, v91.toNat]
def k0_off94 (i : grid0.Coords) (k0_t2 : Fin k0_t2_loop.trips) (k0_t3 : Fin k0_t3_loop.trips) : Fin 3 → Nat :=
  let c7 : Index := 7#32
  let arg0 : BitVec 32 := BitVec.ofNat 32 (i 0).val
  let c4_i32_3 : BitVec 32 := 4#32
  let v4 : BitVec 32 := Scalar.muli arg0 c4_i32_3
  let c0_i32_1 : BitVec 32 := 0#32
  let c1_i32 : BitVec 32 := 1#32
  let arg8 : BitVec 32 := Scf.iv c0_i32_1 c1_i32 k0_t2
  let v5 : BitVec 32 := Scalar.addi v4 arg8
  let v94 : Index := Scalar.indexCast v5
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v95 : Index := Scalar.indexCast v55
  ![7, v94.toNat, v95.toNat]
def k0_off95 (k0_t3 : Fin k0_t3_loop.trips) : Fin 2 → Nat :=
  let c0_42 : Index := 0#32
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v225 : Index := Scalar.indexCast v55
  ![0, v225.toNat]
def k0_mult3 (k0_t2 : Fin k0_t2_loop.trips) : BitVec 32 :=
  let c0_i32_1 : BitVec 32 := 0#32
  let c1_i32 : BitVec 32 := 1#32
  let arg8 : BitVec 32 := Scf.iv c0_i32_1 c1_i32 k0_t2
  let c256_i32 : BitVec 32 := 256#32
  let v34 : BitVec 32 := Scalar.muli arg8 c256_i32
  v34
def k0_off96 (k0_t2 : Fin k0_t2_loop.trips) (c0_i32_11 : BitVec 32) : Fin 2 → Nat :=
  let c0 : Index := 0#32
  let c0_i32_1 : BitVec 32 := 0#32
  let c1_i32 : BitVec 32 := 1#32
  let arg8 : BitVec 32 := Scf.iv c0_i32_1 c1_i32 k0_t2
  let c256_i32 : BitVec 32 := 256#32
  let v34 : BitVec 32 := Scalar.muli arg8 c256_i32
  let v35 : BitVec 32 := v34
  let v36 : BitVec 32 := Scalar.addi v35 c0_i32_11
  let v37 : Index := Scalar.indexCast v36
  ![0, v37.toNat]
def k0_mult4 (k0_t2 : Fin k0_t2_loop.trips) : BitVec 32 :=
  let c0_i32_1 : BitVec 32 := 0#32
  let c1_i32 : BitVec 32 := 1#32
  let arg8 : BitVec 32 := Scf.iv c0_i32_1 c1_i32 k0_t2
  let c256_i32_14 : BitVec 32 := 256#32
  let v49 : BitVec 32 := Scalar.muli arg8 c256_i32_14
  v49
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x32x5120 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x5120 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S12x108x5120 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S108x5120 .f16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S1x128x5120 : Shape := ⟨3, ![1, 128, 5120]⟩
abbrev S5120x108x32 : Shape := ⟨3, ![5120, 108, 32]⟩
abbrev S5120x108x64 : Shape := ⟨3, ![5120, 108, 64]⟩
abbrev S5120x108x12 : Shape := ⟨3, ![5120, 108, 12]⟩
abbrev S5120x108 : Shape := ⟨2, ![5120, 108]⟩
abbrev S128x5120 : Shape := ⟨2, ![128, 5120]⟩
abbrev S108x32x5120 : Shape := ⟨3, ![108, 32, 5120]⟩
abbrev S108x64x5120 : Shape := ⟨3, ![108, 64, 5120]⟩
abbrev S12x108x5120 : Shape := ⟨3, ![12, 108, 5120]⟩
abbrev S108x5120 : Shape := ⟨2, ![108, 5120]⟩
abbrev S128x27648 : Shape := ⟨2, ![128, 27648]⟩
abbrev S4x32x5120 : Shape := ⟨3, ![4, 32, 5120]⟩
abbrev S4x64x5120 : Shape := ⟨3, ![4, 64, 5120]⟩
abbrev S128x1024 : Shape := ⟨2, ![128, 1024]⟩
abbrev S8x108x5120 : Shape := ⟨3, ![8, 108, 5120]⟩
abbrev S8x108x2x5120 : Shape := ⟨4, ![8, 108, 2, 5120]⟩
abbrev S8x108x1x5120 : Shape := ⟨4, ![8, 108, 1, 5120]⟩
abbrev S1x32x128 : Shape := ⟨3, ![1, 32, 128]⟩
abbrev S32x128 : Shape := ⟨2, ![32, 128]⟩
abbrev S1x32x2x128 : Shape := ⟨4, ![1, 32, 2, 128]⟩
abbrev S1x32x1x128 : Shape := ⟨4, ![1, 32, 1, 128]⟩
abbrev S1x12x128 : Shape := ⟨3, ![1, 12, 128]⟩
abbrev S12x128 : Shape := ⟨2, ![12, 128]⟩
abbrev S1x12x2x128 : Shape := ⟨4, ![1, 12, 2, 128]⟩
abbrev S1x12x1x128 : Shape := ⟨4, ![1, 12, 1, 128]⟩
abbrev S128x256 : Shape := ⟨2, ![128, 256]⟩
abbrev S1x64x512 : Shape := ⟨3, ![1, 64, 512]⟩
abbrev S64x512 : Shape := ⟨2, ![64, 512]⟩
abbrev S16x512 : Shape := ⟨2, ![16, 512]⟩
abbrev S1x32x512 : Shape := ⟨3, ![1, 32, 512]⟩
abbrev S32x512 : Shape := ⟨2, ![32, 512]⟩
abbrev S8x512 : Shape := ⟨2, ![8, 512]⟩
abbrev S1x1x512 : Shape := ⟨3, ![1, 1, 512]⟩
abbrev S1x1x2x512 : Shape := ⟨4, ![1, 1, 2, 512]⟩
abbrev S1x1x1x512 : Shape := ⟨4, ![1, 1, 1, 512]⟩
abbrev S1x512 : Shape := ⟨2, ![1, 512]⟩
abbrev S8x1x512 : Shape := ⟨3, ![8, 1, 512]⟩
abbrev S8x8x512 : Shape := ⟨3, ![8, 8, 512]⟩
abbrev S256x512 : Shape := ⟨2, ![256, 512]⟩
abbrev S128x512 : Shape := ⟨2, ![128, 512]⟩
abbrev S128x128 : Shape := ⟨2, ![128, 128]⟩
abbrev S128x128x1 : Shape := ⟨3, ![128, 128, 1]⟩
abbrev S1x128x27648 : Shape := ⟨3, ![1, 128, 27648]⟩

abbrev nBuf : Space → Nat
  | .hbm => 12
  | .vmem => 10
  | .smem => 0
  | _ => 0

abbrev bufTy : (tb : Table) → Fin (tcTables nBuf tb) → BufTy
  | .hbm, ⟨0, _⟩ => ⟨S1x128x5120, .bf16⟩
  | .hbm, ⟨1, _⟩ => ⟨S5120x108x32, .i8⟩
  | .hbm, ⟨2, _⟩ => ⟨S5120x108x64, .i8⟩
  | .hbm, ⟨3, _⟩ => ⟨S5120x108x12, .i8⟩
  | .hbm, ⟨4, _⟩ => ⟨S5120x108, .f16⟩
  | .hbm, ⟨5, _⟩ => ⟨S128x5120, .bf16⟩
  | .hbm, ⟨6, _⟩ => ⟨S108x32x5120, .i8⟩
  | .hbm, ⟨7, _⟩ => ⟨S108x64x5120, .i8⟩
  | .hbm, ⟨8, _⟩ => ⟨S12x108x5120, .i8⟩
  | .hbm, ⟨9, _⟩ => ⟨S108x5120, .f16⟩
  | .hbm, ⟨10, _⟩ => ⟨S128x27648, .bf16⟩
  | .hbm, ⟨11, _⟩ => ⟨S1x128x27648, .bf16⟩
  | .local _ .vmem, ⟨0, _⟩ => ⟨S128x5120, .bf16⟩
  | .local _ .vmem, ⟨1, _⟩ => ⟨S4x32x5120, .i8⟩
  | .local _ .vmem, ⟨2, _⟩ => ⟨S4x32x5120, .i8⟩
  | .local _ .vmem, ⟨3, _⟩ => ⟨S4x64x5120, .i8⟩
  | .local _ .vmem, ⟨4, _⟩ => ⟨S4x64x5120, .i8⟩
  | .local _ .vmem, ⟨5, _⟩ => ⟨S12x108x5120, .i8⟩
  | .local _ .vmem, ⟨6, _⟩ => ⟨S108x5120, .f16⟩
  | .local _ .vmem, ⟨7, _⟩ => ⟨S128x1024, .bf16⟩
  | .local _ .vmem, ⟨8, _⟩ => ⟨S128x1024, .bf16⟩
  | .local _ .vmem, ⟨9, _⟩ => ⟨S8x108x2x5120, .bf16⟩
  | _, _ => ⟨S1x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![27], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_3 : BitVec 32 := 0#32
  let c40_i32 : BitVec 32 := 40#32
  let v4 : BitVec 32 := Scalar.addi c0_i32_3 c40_i32
  let c1_i32_4 : BitVec 32 := 1#32
  ⟨c0_i32_3, v4, c1_i32_4⟩
def k0_mult1 (k0_t1 : Fin k0_t1_loop.trips) : BitVec 32 :=
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  v5
def k0_off1 (k0_t1 : Fin k0_t1_loop.trips) : Fin 3 → Nat :=
  let c0 : Index := 0#32
  let c0_6 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v7 : Index := Scalar.indexCast v6
  ![0, 0, v7.toNat]
def k0_off2 (k0_t1 : Fin k0_t1_loop.trips) : Fin 3 → Nat :=
  let c1 : Index := 1#32
  let c0_7 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v11 : Index := Scalar.indexCast v6
  ![1, 0, v11.toNat]
def k0_off3 (k0_t1 : Fin k0_t1_loop.trips) : Fin 3 → Nat :=
  let c2 : Index := 2#32
  let c0_8 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v15 : Index := Scalar.indexCast v6
  ![2, 0, v15.toNat]
def k0_off4 (k0_t1 : Fin k0_t1_loop.trips) : Fin 3 → Nat :=
  let c3 : Index := 3#32
  let c0_9 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v19 : Index := Scalar.indexCast v6
  ![3, 0, v19.toNat]
def k0_off5 (k0_t1 : Fin k0_t1_loop.trips) : Fin 3 → Nat :=
  let c4 : Index := 4#32
  let c0_10 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v23 : Index := Scalar.indexCast v6
  ![4, 0, v23.toNat]
def k0_off6 (k0_t1 : Fin k0_t1_loop.trips) : Fin 3 → Nat :=
  let c5 : Index := 5#32
  let c0_11 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v27 : Index := Scalar.indexCast v6
  ![5, 0, v27.toNat]
def k0_off7 (k0_t1 : Fin k0_t1_loop.trips) : Fin 3 → Nat :=
  let c6 : Index := 6#32
  let c0_12 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v31 : Index := Scalar.indexCast v6
  ![6, 0, v31.toNat]
def k0_off8 (k0_t1 : Fin k0_t1_loop.trips) : Fin 3 → Nat :=
  let c7 : Index := 7#32
  let c0_13 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v35 : Index := Scalar.indexCast v6
  ![7, 0, v35.toNat]
def k0_off9 (k0_t1 : Fin k0_t1_loop.trips) : Fin 3 → Nat :=
  let c8 : Index := 8#32
  let c0_14 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v39 : Index := Scalar.indexCast v6
  ![8, 0, v39.toNat]
def k0_off10 (k0_t1 : Fin k0_t1_loop.trips) : Fin 3 → Nat :=
  let c9 : Index := 9#32
  let c0_15 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v43 : Index := Scalar.indexCast v6
  ![9, 0, v43.toNat]
def k0_off11 (k0_t1 : Fin k0_t1_loop.trips) : Fin 3 → Nat :=
  let c10 : Index := 10#32
  let c0_16 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v47 : Index := Scalar.indexCast v6
  ![10, 0, v47.toNat]
def k0_off12 (k0_t1 : Fin k0_t1_loop.trips) : Fin 3 → Nat :=
  let c11 : Index := 11#32
  let c0_17 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v51 : Index := Scalar.indexCast v6
  ![11, 0, v51.toNat]
def k0_off13 (k0_t1 : Fin k0_t1_loop.trips) : Fin 2 → Nat :=
  let c0_18 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v55 : Index := Scalar.indexCast v6
  ![0, v55.toNat]
def k0_off14 (k0_t1 : Fin k0_t1_loop.trips) : Fin 4 → Nat :=
  let c0_27 : Index := 0#32
  let c0_28 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v92 : Index := Scalar.indexCast v6
  ![0, 0, 0, v92.toNat]
def k0_off15 (k0_t1 : Fin k0_t1_loop.trips) : Fin 4 → Nat :=
  let c1_41 : Index := 1#32
  let c0_42 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v127 : Index := Scalar.indexCast v6
  ![1, 0, 0, v127.toNat]
def k0_off16 (k0_t1 : Fin k0_t1_loop.trips) : Fin 4 → Nat :=
  let c2_55 : Index := 2#32
  let c0_56 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v162 : Index := Scalar.indexCast v6
  ![2, 0, 0, v162.toNat]
def k0_off17 (k0_t1 : Fin k0_t1_loop.trips) : Fin 4 → Nat :=
  let c3_69 : Index := 3#32
  let c0_70 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v197 : Index := Scalar.indexCast v6
  ![3, 0, 0, v197.toNat]
def k0_off18 (k0_t1 : Fin k0_t1_loop.trips) : Fin 4 → Nat :=
  let c4_82 : Index := 4#32
  let c0_83 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v232 : Index := Scalar.indexCast v6
  ![4, 0, 0, v232.toNat]
def k0_off19 (k0_t1 : Fin k0_t1_loop.trips) : Fin 4 → Nat :=
  let c5_96 : Index := 5#32
  let c0_97 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v267 : Index := Scalar.indexCast v6
  ![5, 0, 0, v267.toNat]
def k0_off20 (k0_t1 : Fin k0_t1_loop.trips) : Fin 4 → Nat :=
  let c6_110 : Index := 6#32
  let c0_111 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v302 : Index := Scalar.indexCast v6
  ![6, 0, 0, v302.toNat]
def k0_off21 (k0_t1 : Fin k0_t1_loop.trips) : Fin 4 → Nat :=
  let c7_124 : Index := 7#32
  let c0_125 : Index := 0#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v337 : Index := Scalar.indexCast v6
  ![7, 0, 0, v337.toNat]
def k0_off22 (k0_t1 : Fin k0_t1_loop.trips) : Fin 3 → Nat :=
  let c0_126 : Index := 0#32
  let c32 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v341 : Index := Scalar.indexCast v6
  ![0, 32, v341.toNat]
def k0_off23 (k0_t1 : Fin k0_t1_loop.trips) : Fin 3 → Nat :=
  let c1_127 : Index := 1#32
  let c32_128 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v345 : Index := Scalar.indexCast v6
  ![1, 32, v345.toNat]
def k0_off24 (k0_t1 : Fin k0_t1_loop.trips) : Fin 3 → Nat :=
  let c2_129 : Index := 2#32
  let c32_130 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v349 : Index := Scalar.indexCast v6
  ![2, 32, v349.toNat]
def k0_off25 (k0_t1 : Fin k0_t1_loop.trips) : Fin 3 → Nat :=
  let c3_131 : Index := 3#32
  let c32_132 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v353 : Index := Scalar.indexCast v6
  ![3, 32, v353.toNat]
def k0_off26 (k0_t1 : Fin k0_t1_loop.trips) : Fin 3 → Nat :=
  let c4_133 : Index := 4#32
  let c32_134 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v357 : Index := Scalar.indexCast v6
  ![4, 32, v357.toNat]
def k0_off27 (k0_t1 : Fin k0_t1_loop.trips) : Fin 3 → Nat :=
  let c5_135 : Index := 5#32
  let c32_136 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v361 : Index := Scalar.indexCast v6
  ![5, 32, v361.toNat]
def k0_off28 (k0_t1 : Fin k0_t1_loop.trips) : Fin 3 → Nat :=
  let c6_137 : Index := 6#32
  let c32_138 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v365 : Index := Scalar.indexCast v6
  ![6, 32, v365.toNat]
def k0_off29 (k0_t1 : Fin k0_t1_loop.trips) : Fin 3 → Nat :=
  let c7_139 : Index := 7#32
  let c32_140 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v369 : Index := Scalar.indexCast v6
  ![7, 32, v369.toNat]
def k0_off30 (k0_t1 : Fin k0_t1_loop.trips) : Fin 3 → Nat :=
  let c8_141 : Index := 8#32
  let c32_142 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v373 : Index := Scalar.indexCast v6
  ![8, 32, v373.toNat]
def k0_off31 (k0_t1 : Fin k0_t1_loop.trips) : Fin 3 → Nat :=
  let c9_143 : Index := 9#32
  let c32_144 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v377 : Index := Scalar.indexCast v6
  ![9, 32, v377.toNat]
def k0_off32 (k0_t1 : Fin k0_t1_loop.trips) : Fin 3 → Nat :=
  let c10_145 : Index := 10#32
  let c32_146 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v381 : Index := Scalar.indexCast v6
  ![10, 32, v381.toNat]
def k0_off33 (k0_t1 : Fin k0_t1_loop.trips) : Fin 3 → Nat :=
  let c11_147 : Index := 11#32
  let c32_148 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v385 : Index := Scalar.indexCast v6
  ![11, 32, v385.toNat]
def k0_off34 (k0_t1 : Fin k0_t1_loop.trips) : Fin 2 → Nat :=
  let c32_149 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v389 : Index := Scalar.indexCast v6
  ![32, v389.toNat]
def k0_off35 (k0_t1 : Fin k0_t1_loop.trips) : Fin 4 → Nat :=
  let c0_163 : Index := 0#32
  let c32_164 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v426 : Index := Scalar.indexCast v6
  ![0, 32, 0, v426.toNat]
def k0_off36 (k0_t1 : Fin k0_t1_loop.trips) : Fin 4 → Nat :=
  let c1_177 : Index := 1#32
  let c32_178 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v461 : Index := Scalar.indexCast v6
  ![1, 32, 0, v461.toNat]
def k0_off37 (k0_t1 : Fin k0_t1_loop.trips) : Fin 4 → Nat :=
  let c2_191 : Index := 2#32
  let c32_192 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v496 : Index := Scalar.indexCast v6
  ![2, 32, 0, v496.toNat]
def k0_off38 (k0_t1 : Fin k0_t1_loop.trips) : Fin 4 → Nat :=
  let c3_205 : Index := 3#32
  let c32_206 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v531 : Index := Scalar.indexCast v6
  ![3, 32, 0, v531.toNat]
def k0_off39 (k0_t1 : Fin k0_t1_loop.trips) : Fin 4 → Nat :=
  let c4_219 : Index := 4#32
  let c32_220 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v566 : Index := Scalar.indexCast v6
  ![4, 32, 0, v566.toNat]
def k0_off40 (k0_t1 : Fin k0_t1_loop.trips) : Fin 4 → Nat :=
  let c5_233 : Index := 5#32
  let c32_234 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v601 : Index := Scalar.indexCast v6
  ![5, 32, 0, v601.toNat]
def k0_off41 (k0_t1 : Fin k0_t1_loop.trips) : Fin 4 → Nat :=
  let c6_247 : Index := 6#32
  let c32_248 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v636 : Index := Scalar.indexCast v6
  ![6, 32, 0, v636.toNat]
def k0_off42 (k0_t1 : Fin k0_t1_loop.trips) : Fin 4 → Nat :=
  let c7_261 : Index := 7#32
  let c32_262 : Index := 32#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v671 : Index := Scalar.indexCast v6
  ![7, 32, 0, v671.toNat]
def k0_off43 (k0_t1 : Fin k0_t1_loop.trips) : Fin 3 → Nat :=
  let c0_263 : Index := 0#32
  let c64 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v675 : Index := Scalar.indexCast v6
  ![0, 64, v675.toNat]
def k0_off44 (k0_t1 : Fin k0_t1_loop.trips) : Fin 3 → Nat :=
  let c1_264 : Index := 1#32
  let c64_265 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v679 : Index := Scalar.indexCast v6
  ![1, 64, v679.toNat]
def k0_off45 (k0_t1 : Fin k0_t1_loop.trips) : Fin 3 → Nat :=
  let c2_266 : Index := 2#32
  let c64_267 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v683 : Index := Scalar.indexCast v6
  ![2, 64, v683.toNat]
def k0_off46 (k0_t1 : Fin k0_t1_loop.trips) : Fin 3 → Nat :=
  let c3_268 : Index := 3#32
  let c64_269 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v687 : Index := Scalar.indexCast v6
  ![3, 64, v687.toNat]
def k0_off47 (k0_t1 : Fin k0_t1_loop.trips) : Fin 3 → Nat :=
  let c4_270 : Index := 4#32
  let c64_271 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v691 : Index := Scalar.indexCast v6
  ![4, 64, v691.toNat]
def k0_off48 (k0_t1 : Fin k0_t1_loop.trips) : Fin 3 → Nat :=
  let c5_272 : Index := 5#32
  let c64_273 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v695 : Index := Scalar.indexCast v6
  ![5, 64, v695.toNat]
def k0_off49 (k0_t1 : Fin k0_t1_loop.trips) : Fin 3 → Nat :=
  let c6_274 : Index := 6#32
  let c64_275 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v699 : Index := Scalar.indexCast v6
  ![6, 64, v699.toNat]
def k0_off50 (k0_t1 : Fin k0_t1_loop.trips) : Fin 3 → Nat :=
  let c7_276 : Index := 7#32
  let c64_277 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v703 : Index := Scalar.indexCast v6
  ![7, 64, v703.toNat]
def k0_off51 (k0_t1 : Fin k0_t1_loop.trips) : Fin 3 → Nat :=
  let c8_278 : Index := 8#32
  let c64_279 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v707 : Index := Scalar.indexCast v6
  ![8, 64, v707.toNat]
def k0_off52 (k0_t1 : Fin k0_t1_loop.trips) : Fin 3 → Nat :=
  let c9_280 : Index := 9#32
  let c64_281 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v711 : Index := Scalar.indexCast v6
  ![9, 64, v711.toNat]
def k0_off53 (k0_t1 : Fin k0_t1_loop.trips) : Fin 3 → Nat :=
  let c10_282 : Index := 10#32
  let c64_283 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v715 : Index := Scalar.indexCast v6
  ![10, 64, v715.toNat]
def k0_off54 (k0_t1 : Fin k0_t1_loop.trips) : Fin 3 → Nat :=
  let c11_284 : Index := 11#32
  let c64_285 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v719 : Index := Scalar.indexCast v6
  ![11, 64, v719.toNat]
def k0_off55 (k0_t1 : Fin k0_t1_loop.trips) : Fin 2 → Nat :=
  let c64_286 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v723 : Index := Scalar.indexCast v6
  ![64, v723.toNat]
def k0_off56 (k0_t1 : Fin k0_t1_loop.trips) : Fin 4 → Nat :=
  let c0_300 : Index := 0#32
  let c64_301 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v760 : Index := Scalar.indexCast v6
  ![0, 64, 0, v760.toNat]
def k0_off57 (k0_t1 : Fin k0_t1_loop.trips) : Fin 4 → Nat :=
  let c1_314 : Index := 1#32
  let c64_315 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v795 : Index := Scalar.indexCast v6
  ![1, 64, 0, v795.toNat]
def k0_off58 (k0_t1 : Fin k0_t1_loop.trips) : Fin 4 → Nat :=
  let c2_328 : Index := 2#32
  let c64_329 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v830 : Index := Scalar.indexCast v6
  ![2, 64, 0, v830.toNat]
def k0_off59 (k0_t1 : Fin k0_t1_loop.trips) : Fin 4 → Nat :=
  let c3_342 : Index := 3#32
  let c64_343 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v865 : Index := Scalar.indexCast v6
  ![3, 64, 0, v865.toNat]
def k0_off60 (k0_t1 : Fin k0_t1_loop.trips) : Fin 4 → Nat :=
  let c4_356 : Index := 4#32
  let c64_357 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v900 : Index := Scalar.indexCast v6
  ![4, 64, 0, v900.toNat]
def k0_off61 (k0_t1 : Fin k0_t1_loop.trips) : Fin 4 → Nat :=
  let c5_370 : Index := 5#32
  let c64_371 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v935 : Index := Scalar.indexCast v6
  ![5, 64, 0, v935.toNat]
def k0_off62 (k0_t1 : Fin k0_t1_loop.trips) : Fin 4 → Nat :=
  let c6_384 : Index := 6#32
  let c64_385 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v970 : Index := Scalar.indexCast v6
  ![6, 64, 0, v970.toNat]
def k0_off63 (k0_t1 : Fin k0_t1_loop.trips) : Fin 4 → Nat :=
  let c7_398 : Index := 7#32
  let c64_399 : Index := 64#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1005 : Index := Scalar.indexCast v6
  ![7, 64, 0, v1005.toNat]
def k0_off64 (k0_t1 : Fin k0_t1_loop.trips) : Fin 3 → Nat :=
  let c0_400 : Index := 0#32
  let c96 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1009 : Index := Scalar.indexCast v6
  ![0, 96, v1009.toNat]
def k0_off65 (k0_t1 : Fin k0_t1_loop.trips) : Fin 3 → Nat :=
  let c1_401 : Index := 1#32
  let c96_402 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1013 : Index := Scalar.indexCast v6
  ![1, 96, v1013.toNat]
def k0_off66 (k0_t1 : Fin k0_t1_loop.trips) : Fin 3 → Nat :=
  let c2_403 : Index := 2#32
  let c96_404 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1017 : Index := Scalar.indexCast v6
  ![2, 96, v1017.toNat]
def k0_off67 (k0_t1 : Fin k0_t1_loop.trips) : Fin 3 → Nat :=
  let c3_405 : Index := 3#32
  let c96_406 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1021 : Index := Scalar.indexCast v6
  ![3, 96, v1021.toNat]
def k0_off68 (k0_t1 : Fin k0_t1_loop.trips) : Fin 3 → Nat :=
  let c4_407 : Index := 4#32
  let c96_408 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1025 : Index := Scalar.indexCast v6
  ![4, 96, v1025.toNat]
def k0_off69 (k0_t1 : Fin k0_t1_loop.trips) : Fin 3 → Nat :=
  let c5_409 : Index := 5#32
  let c96_410 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1029 : Index := Scalar.indexCast v6
  ![5, 96, v1029.toNat]
def k0_off70 (k0_t1 : Fin k0_t1_loop.trips) : Fin 3 → Nat :=
  let c6_411 : Index := 6#32
  let c96_412 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1033 : Index := Scalar.indexCast v6
  ![6, 96, v1033.toNat]
def k0_off71 (k0_t1 : Fin k0_t1_loop.trips) : Fin 3 → Nat :=
  let c7_413 : Index := 7#32
  let c96_414 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1037 : Index := Scalar.indexCast v6
  ![7, 96, v1037.toNat]
def k0_off72 (k0_t1 : Fin k0_t1_loop.trips) : Fin 3 → Nat :=
  let c8_415 : Index := 8#32
  let c96_416 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1041 : Index := Scalar.indexCast v6
  ![8, 96, v1041.toNat]
def k0_off73 (k0_t1 : Fin k0_t1_loop.trips) : Fin 3 → Nat :=
  let c9_417 : Index := 9#32
  let c96_418 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1045 : Index := Scalar.indexCast v6
  ![9, 96, v1045.toNat]
def k0_off74 (k0_t1 : Fin k0_t1_loop.trips) : Fin 3 → Nat :=
  let c10_419 : Index := 10#32
  let c96_420 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1049 : Index := Scalar.indexCast v6
  ![10, 96, v1049.toNat]
def k0_off75 (k0_t1 : Fin k0_t1_loop.trips) : Fin 3 → Nat :=
  let c11_421 : Index := 11#32
  let c96_422 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1053 : Index := Scalar.indexCast v6
  ![11, 96, v1053.toNat]
def k0_off76 (k0_t1 : Fin k0_t1_loop.trips) : Fin 2 → Nat :=
  let c96_423 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1057 : Index := Scalar.indexCast v6
  ![96, v1057.toNat]
def k0_off77 (k0_t1 : Fin k0_t1_loop.trips) : Fin 4 → Nat :=
  let c0_437 : Index := 0#32
  let c96_438 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1094 : Index := Scalar.indexCast v6
  ![0, 96, 0, v1094.toNat]
def k0_off78 (k0_t1 : Fin k0_t1_loop.trips) : Fin 4 → Nat :=
  let c1_451 : Index := 1#32
  let c96_452 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1129 : Index := Scalar.indexCast v6
  ![1, 96, 0, v1129.toNat]
def k0_off79 (k0_t1 : Fin k0_t1_loop.trips) : Fin 4 → Nat :=
  let c2_465 : Index := 2#32
  let c96_466 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1164 : Index := Scalar.indexCast v6
  ![2, 96, 0, v1164.toNat]
def k0_off80 (k0_t1 : Fin k0_t1_loop.trips) : Fin 4 → Nat :=
  let c3_479 : Index := 3#32
  let c96_480 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1199 : Index := Scalar.indexCast v6
  ![3, 96, 0, v1199.toNat]
def k0_off81 (k0_t1 : Fin k0_t1_loop.trips) : Fin 4 → Nat :=
  let c4_493 : Index := 4#32
  let c96_494 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1234 : Index := Scalar.indexCast v6
  ![4, 96, 0, v1234.toNat]
def k0_off82 (k0_t1 : Fin k0_t1_loop.trips) : Fin 4 → Nat :=
  let c5_507 : Index := 5#32
  let c96_508 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1269 : Index := Scalar.indexCast v6
  ![5, 96, 0, v1269.toNat]
def k0_off83 (k0_t1 : Fin k0_t1_loop.trips) : Fin 4 → Nat :=
  let c6_521 : Index := 6#32
  let c96_522 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1304 : Index := Scalar.indexCast v6
  ![6, 96, 0, v1304.toNat]
def k0_off84 (k0_t1 : Fin k0_t1_loop.trips) : Fin 4 → Nat :=
  let c7_535 : Index := 7#32
  let c96_536 : Index := 96#32
  let c0_i32_3 : BitVec 32 := 0#32
  let c1_i32_4 : BitVec 32 := 1#32
  let arg8 : BitVec 32 := Scf.iv c0_i32_3 c1_i32_4 k0_t1
  let c128_i32 : BitVec 32 := 128#32
  let v5 : BitVec 32 := Scalar.muli arg8 c128_i32
  let v6 : BitVec 32 := v5
  let v1339 : Index := Scalar.indexCast v6
  ![7, 96, 0, v1339.toNat]
@[reducible] def k0_t2_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
@[reducible] def k0_t3_loop : Scf.Loop 32 :=
  let c0_i32_4 : BitVec 32 := 0#32
  let c10_i32 : BitVec 32 := 10#32
  let v7 : BitVec 32 := Scalar.addi c0_i32_4 c10_i32
  let c1_i32_5 : BitVec 32 := 1#32
  ⟨c0_i32_4, v7, c1_i32_5⟩
def k0_mult2 (k0_t3 : Fin k0_t3_loop.trips) : BitVec 32 :=
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  v54
def k0_off85 (k0_t2 : Fin k0_t2_loop.trips) (k0_t3 : Fin k0_t3_loop.trips) : Fin 3 → Nat :=
  let c0_i32_1 : BitVec 32 := 0#32
  let c1_i32 : BitVec 32 := 1#32
  let arg8 : BitVec 32 := Scf.iv c0_i32_1 c1_i32 k0_t2
  let v56 : Index := Scalar.indexCast arg8
  let c0_17 : Index := 0#32
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v57 : Index := Scalar.indexCast v55
  ![v56.toNat, 0, v57.toNat]
def k0_off86 (k0_t2 : Fin k0_t2_loop.trips) (k0_t3 : Fin k0_t3_loop.trips) : Fin 3 → Nat :=
  let c0_i32_1 : BitVec 32 := 0#32
  let c1_i32 : BitVec 32 := 1#32
  let arg8 : BitVec 32 := Scf.iv c0_i32_1 c1_i32 k0_t2
  let v61 : Index := Scalar.indexCast arg8
  let c0_18 : Index := 0#32
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v62 : Index := Scalar.indexCast v55
  ![v61.toNat, 0, v62.toNat]
def k0_off87 (i : grid0.Coords) (k0_t2 : Fin k0_t2_loop.trips) (k0_t3 : Fin k0_t3_loop.trips) : Fin 4 → Nat :=
  let c0_19 : Index := 0#32
  let arg0 : BitVec 32 := BitVec.ofNat 32 (i 0).val
  let c4_i32_3 : BitVec 32 := 4#32
  let v4 : BitVec 32 := Scalar.muli arg0 c4_i32_3
  let c0_i32_1 : BitVec 32 := 0#32
  let c1_i32 : BitVec 32 := 1#32
  let arg8 : BitVec 32 := Scf.iv c0_i32_1 c1_i32 k0_t2
  let v5 : BitVec 32 := Scalar.addi v4 arg8
  let v66 : Index := Scalar.indexCast v5
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v67 : Index := Scalar.indexCast v55
  ![0, v66.toNat, 0, v67.toNat]
def k0_off88 (i : grid0.Coords) (k0_t2 : Fin k0_t2_loop.trips) (k0_t3 : Fin k0_t3_loop.trips) : Fin 4 → Nat :=
  let c1 : Index := 1#32
  let arg0 : BitVec 32 := BitVec.ofNat 32 (i 0).val
  let c4_i32_3 : BitVec 32 := 4#32
  let v4 : BitVec 32 := Scalar.muli arg0 c4_i32_3
  let c0_i32_1 : BitVec 32 := 0#32
  let c1_i32 : BitVec 32 := 1#32
  let arg8 : BitVec 32 := Scf.iv c0_i32_1 c1_i32 k0_t2
  let v5 : BitVec 32 := Scalar.addi v4 arg8
  let v70 : Index := Scalar.indexCast v5
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v71 : Index := Scalar.indexCast v55
  ![1, v70.toNat, 0, v71.toNat]
def k0_off89 (i : grid0.Coords) (k0_t2 : Fin k0_t2_loop.trips) (k0_t3 : Fin k0_t3_loop.trips) : Fin 4 → Nat :=
  let c2 : Index := 2#32
  let arg0 : BitVec 32 := BitVec.ofNat 32 (i 0).val
  let c4_i32_3 : BitVec 32 := 4#32
  let v4 : BitVec 32 := Scalar.muli arg0 c4_i32_3
  let c0_i32_1 : BitVec 32 := 0#32
  let c1_i32 : BitVec 32 := 1#32
  let arg8 : BitVec 32 := Scf.iv c0_i32_1 c1_i32 k0_t2
  let v5 : BitVec 32 := Scalar.addi v4 arg8
  let v74 : Index := Scalar.indexCast v5
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v75 : Index := Scalar.indexCast v55
  ![2, v74.toNat, 0, v75.toNat]
def k0_off90 (i : grid0.Coords) (k0_t2 : Fin k0_t2_loop.trips) (k0_t3 : Fin k0_t3_loop.trips) : Fin 4 → Nat :=
  let c3 : Index := 3#32
  let arg0 : BitVec 32 := BitVec.ofNat 32 (i 0).val
  let c4_i32_3 : BitVec 32 := 4#32
  let v4 : BitVec 32 := Scalar.muli arg0 c4_i32_3
  let c0_i32_1 : BitVec 32 := 0#32
  let c1_i32 : BitVec 32 := 1#32
  let arg8 : BitVec 32 := Scf.iv c0_i32_1 c1_i32 k0_t2
  let v5 : BitVec 32 := Scalar.addi v4 arg8
  let v78 : Index := Scalar.indexCast v5
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v79 : Index := Scalar.indexCast v55
  ![3, v78.toNat, 0, v79.toNat]
def k0_off91 (i : grid0.Coords) (k0_t2 : Fin k0_t2_loop.trips) (k0_t3 : Fin k0_t3_loop.trips) : Fin 4 → Nat :=
  let c4 : Index := 4#32
  let arg0 : BitVec 32 := BitVec.ofNat 32 (i 0).val
  let c4_i32_3 : BitVec 32 := 4#32
  let v4 : BitVec 32 := Scalar.muli arg0 c4_i32_3
  let c0_i32_1 : BitVec 32 := 0#32
  let c1_i32 : BitVec 32 := 1#32
  let arg8 : BitVec 32 := Scf.iv c0_i32_1 c1_i32 k0_t2
  let v5 : BitVec 32 := Scalar.addi v4 arg8
  let v82 : Index := Scalar.indexCast v5
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v83 : Index := Scalar.indexCast v55
  ![4, v82.toNat, 0, v83.toNat]
def k0_off92 (i : grid0.Coords) (k0_t2 : Fin k0_t2_loop.trips) (k0_t3 : Fin k0_t3_loop.trips) : Fin 4 → Nat :=
  let c5 : Index := 5#32
  let arg0 : BitVec 32 := BitVec.ofNat 32 (i 0).val
  let c4_i32_3 : BitVec 32 := 4#32
  let v4 : BitVec 32 := Scalar.muli arg0 c4_i32_3
  let c0_i32_1 : BitVec 32 := 0#32
  let c1_i32 : BitVec 32 := 1#32
  let arg8 : BitVec 32 := Scf.iv c0_i32_1 c1_i32 k0_t2
  let v5 : BitVec 32 := Scalar.addi v4 arg8
  let v86 : Index := Scalar.indexCast v5
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v87 : Index := Scalar.indexCast v55
  ![5, v86.toNat, 0, v87.toNat]
def k0_off93 (i : grid0.Coords) (k0_t2 : Fin k0_t2_loop.trips) (k0_t3 : Fin k0_t3_loop.trips) : Fin 4 → Nat :=
  let c6 : Index := 6#32
  let arg0 : BitVec 32 := BitVec.ofNat 32 (i 0).val
  let c4_i32_3 : BitVec 32 := 4#32
  let v4 : BitVec 32 := Scalar.muli arg0 c4_i32_3
  let c0_i32_1 : BitVec 32 := 0#32
  let c1_i32 : BitVec 32 := 1#32
  let arg8 : BitVec 32 := Scf.iv c0_i32_1 c1_i32 k0_t2
  let v5 : BitVec 32 := Scalar.addi v4 arg8
  let v90 : Index := Scalar.indexCast v5
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v91 : Index := Scalar.indexCast v55
  ![6, v90.toNat, 0, v91.toNat]
def k0_off94 (i : grid0.Coords) (k0_t2 : Fin k0_t2_loop.trips) (k0_t3 : Fin k0_t3_loop.trips) : Fin 4 → Nat :=
  let c7 : Index := 7#32
  let arg0 : BitVec 32 := BitVec.ofNat 32 (i 0).val
  let c4_i32_3 : BitVec 32 := 4#32
  let v4 : BitVec 32 := Scalar.muli arg0 c4_i32_3
  let c0_i32_1 : BitVec 32 := 0#32
  let c1_i32 : BitVec 32 := 1#32
  let arg8 : BitVec 32 := Scf.iv c0_i32_1 c1_i32 k0_t2
  let v5 : BitVec 32 := Scalar.addi v4 arg8
  let v94 : Index := Scalar.indexCast v5
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v95 : Index := Scalar.indexCast v55
  ![7, v94.toNat, 0, v95.toNat]
def k0_off95 (k0_t3 : Fin k0_t3_loop.trips) : Fin 2 → Nat :=
  let c0_42 : Index := 0#32
  let c0_i32_4 : BitVec 32 := 0#32
  let c1_i32_5 : BitVec 32 := 1#32
  let arg9 : BitVec 32 := Scf.iv c0_i32_4 c1_i32_5 k0_t3
  let c512_i32 : BitVec 32 := 512#32
  let v54 : BitVec 32 := Scalar.muli arg9 c512_i32
  let v55 : BitVec 32 := v54
  let v225 : Index := Scalar.indexCast v55
  ![0, v225.toNat]
def k0_mult3 (k0_t2 : Fin k0_t2_loop.trips) : BitVec 32 :=
  let c0_i32_1 : BitVec 32 := 0#32
  let c1_i32 : BitVec 32 := 1#32
  let arg8 : BitVec 32 := Scf.iv c0_i32_1 c1_i32 k0_t2
  let c256_i32 : BitVec 32 := 256#32
  let v34 : BitVec 32 := Scalar.muli arg8 c256_i32
  v34
def k0_off96 (k0_t2 : Fin k0_t2_loop.trips) (c0_i32_11 : BitVec 32) : Fin 2 → Nat :=
  let c0 : Index := 0#32
  let c0_i32_1 : BitVec 32 := 0#32
  let c1_i32 : BitVec 32 := 1#32
  let arg8 : BitVec 32 := Scf.iv c0_i32_1 c1_i32 k0_t2
  let c256_i32 : BitVec 32 := 256#32
  let v34 : BitVec 32 := Scalar.muli arg8 c256_i32
  let v35 : BitVec 32 := v34
  let v36 : BitVec 32 := Scalar.addi v35 c0_i32_11
  let v37 : Index := Scalar.indexCast v36
  ![0, v37.toNat]
def k0_mult4 (k0_t2 : Fin k0_t2_loop.trips) : BitVec 32 :=
  let c0_i32_1 : BitVec 32 := 0#32
  let c1_i32 : BitVec 32 := 1#32
  let arg8 : BitVec 32 := Scf.iv c0_i32_1 c1_i32 k0_t2
  let c256_i32_14 : BitVec 32 := 256#32
  let v49 : BitVec 32 := Scalar.muli arg8 c256_i32_14
  v49
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x32x5120 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x5120 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S12x108x5120 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S108x5120 .f16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x128x5120 : Shape := ⟨3, ![1, 128, 5120]⟩
abbrev S5120x108x32 : Shape := ⟨3, ![5120, 108, 32]⟩
abbrev S5120x108x64 : Shape := ⟨3, ![5120, 108, 64]⟩
abbrev S5120x108x12 : Shape := ⟨3, ![5120, 108, 12]⟩
abbrev S5120x108 : Shape := ⟨2, ![5120, 108]⟩
abbrev S16 : Shape := ⟨1, ![16]⟩
abbrev S5120x108x8 : Shape := ⟨3, ![5120, 108, 8]⟩
abbrev S5120x108x16 : Shape := ⟨3, ![5120, 108, 16]⟩
abbrev S_ : Shape := ⟨0, ![]⟩
abbrev S1x1x16 : Shape := ⟨3, ![1, 1, 16]⟩
abbrev S5120x108x4 : Shape := ⟨3, ![5120, 108, 4]⟩
abbrev S5120x108x1 : Shape := ⟨3, ![5120, 108, 1]⟩
abbrev S5120x108x2x1x32 : Shape := ⟨5, ![5120, 108, 2, 1, 32]⟩
abbrev S5120x108x1x1x32 : Shape := ⟨5, ![5120, 108, 1, 1, 32]⟩
abbrev S2 : Shape := ⟨1, ![2]⟩
abbrev S2x1x1 : Shape := ⟨3, ![2, 1, 1]⟩
abbrev S4 : Shape := ⟨1, ![4]⟩
abbrev S1x4x1 : Shape := ⟨3, ![1, 4, 1]⟩
abbrev S1x1x1x4x1 : Shape := ⟨5, ![1, 1, 1, 4, 1]⟩
abbrev S5120x108x2x4x32 : Shape := ⟨5, ![5120, 108, 2, 4, 32]⟩
abbrev S2x4x1 : Shape := ⟨3, ![2, 4, 1]⟩
abbrev S1x1x2x4x1 : Shape := ⟨5, ![1, 1, 2, 4, 1]⟩
abbrev S5120x108x256 : Shape := ⟨3, ![5120, 108, 256]⟩
abbrev S5120x108x16x16 : Shape := ⟨4, ![5120, 108, 16, 16]⟩
abbrev S1x128x108x256 : Shape := ⟨4, ![1, 128, 108, 256]⟩
abbrev S1x128x27648 : Shape := ⟨3, ![1, 128, 27648]⟩

abbrev nBuf : Space → Nat
  | .hbm => 94
  | .vmem => 2
  | .smem => 0
  | _ => 0

abbrev bufTy : (tb : Table) → Fin (tcTables nBuf tb) → BufTy
  | .hbm, ⟨0, _⟩ => ⟨S1x128x5120, .bf16⟩
  | .hbm, ⟨1, _⟩ => ⟨S5120x108x32, .i8⟩
  | .hbm, ⟨2, _⟩ => ⟨S5120x108x64, .i8⟩
  | .hbm, ⟨3, _⟩ => ⟨S5120x108x12, .i8⟩
  | .hbm, ⟨4, _⟩ => ⟨S5120x108, .f16⟩
  | .hbm, ⟨5, _⟩ => ⟨S5120x108, .f32⟩
  | .hbm, ⟨6, _⟩ => ⟨S5120x108x12, .i32⟩
  | .hbm, ⟨7, _⟩ => ⟨S16, .i32⟩
  | .hbm, ⟨8, _⟩ => ⟨S5120x108x8, .i32⟩
  | .hbm, ⟨9, _⟩ => ⟨S5120x108x16, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S1x1x16, .i32⟩
  | .hbm, ⟨17, _⟩ => ⟨S5120x108x16, .i32⟩
  | .hbm, ⟨18, _⟩ => ⟨S5120x108x16, .i32⟩
  | .hbm, ⟨19, _⟩ => ⟨S_, .i32⟩
  | .hbm, ⟨20, _⟩ => ⟨S5120x108x16, .i32⟩
  | .hbm, ⟨21, _⟩ => ⟨S5120x108x16, .i32⟩
  | .hbm, ⟨22, _⟩ => ⟨S5120x108x4, .i32⟩
  | .hbm, ⟨23, _⟩ => ⟨S5120x108x16, .i32⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S1x1x16, .i32⟩
  | .hbm, ⟨31, _⟩ => ⟨S5120x108x16, .i32⟩
  | .hbm, ⟨32, _⟩ => ⟨S5120x108x16, .i32⟩
  | .hbm, ⟨33, _⟩ => ⟨S_, .i32⟩
  | .hbm, ⟨34, _⟩ => ⟨S5120x108x16, .i32⟩
  | .hbm, ⟨35, _⟩ => ⟨S5120x108x16, .i32⟩
  | .hbm, ⟨36, _⟩ => ⟨S_, .i32⟩
  | .hbm, ⟨37, _⟩ => ⟨S5120x108x16, .i32⟩
  | .hbm, ⟨38, _⟩ => ⟨S5120x108x16, .i32⟩
  | .hbm, ⟨39, _⟩ => ⟨S5120x108x16, .i32⟩
  | .hbm, ⟨40, _⟩ => ⟨S5120x108x1, .f32⟩
  | .hbm, ⟨41, _⟩ => ⟨S_, .i32⟩
  | .hbm, ⟨42, _⟩ => ⟨S5120x108x16, .i32⟩
  | .hbm, ⟨43, _⟩ => ⟨S5120x108x16, .i32⟩
  | .hbm, ⟨44, _⟩ => ⟨S5120x108x16, .f32⟩
  | .hbm, ⟨45, _⟩ => ⟨S5120x108x16, .f32⟩
  | .hbm, ⟨46, _⟩ => ⟨S5120x108x16, .f32⟩
  | .hbm, ⟨47, _⟩ => ⟨S5120x108x16, .bf16⟩
  | .hbm, ⟨48, _⟩ => ⟨S5120x108x64, .i32⟩
  | .hbm, ⟨49, _⟩ => ⟨S5120x108x2x1x32, .i32⟩
  | .hbm, ⟨50, _⟩ => ⟨S5120x108x32, .i32⟩
  | .hbm, ⟨51, _⟩ => ⟨S5120x108x1x1x32, .i32⟩
  | .hbm, ⟨52, _⟩ => ⟨S2, .i32⟩
  | .hbm, ⟨53, _⟩ => ⟨S2x1x1, .i32⟩
  | .hbm, ⟨54, _⟩ => ⟨S4, .i32⟩
  | .hbm, ⟨55, _⟩ => ⟨S1x4x1, .i32⟩
  | .hbm, ⟨56, _⟩ => ⟨S_, .i32⟩
  | .hbm, ⟨57, _⟩ => ⟨S1x4x1, .i32⟩
  | .hbm, ⟨58, _⟩ => ⟨S1x4x1, .i32⟩
  | .hbm, ⟨59, _⟩ => ⟨S1x1x1x4x1, .i32⟩
  | .hbm, ⟨60, _⟩ => ⟨S5120x108x2x4x32, .i32⟩
  | .hbm, ⟨61, _⟩ => ⟨S5120x108x2x4x32, .i32⟩
  | .hbm, ⟨62, _⟩ => ⟨S5120x108x2x4x32, .i32⟩
  | .hbm, ⟨63, _⟩ => ⟨S_, .i32⟩
  | .hbm, ⟨64, _⟩ => ⟨S5120x108x2x4x32, .i32⟩
  | .hbm, ⟨65, _⟩ => ⟨S5120x108x2x4x32, .i32⟩
  | .hbm, ⟨66, _⟩ => ⟨S_, .i32⟩
  | .hbm, ⟨67, _⟩ => ⟨S2x1x1, .i32⟩
  | .hbm, ⟨68, _⟩ => ⟨S2x1x1, .i32⟩
  | .hbm, ⟨69, _⟩ => ⟨S2x4x1, .i32⟩
  | .hbm, ⟨70, _⟩ => ⟨S2x4x1, .i32⟩
  | .hbm, ⟨71, _⟩ => ⟨S2x4x1, .i32⟩
  | .hbm, ⟨72, _⟩ => ⟨S1x1x2x4x1, .i32⟩
  | .hbm, ⟨73, _⟩ => ⟨S5120x108x2x4x32, .i32⟩
  | .hbm, ⟨74, _⟩ => ⟨S5120x108x2x4x32, .i32⟩
  | .hbm, ⟨75, _⟩ => ⟨S5120x108x2x4x32, .i32⟩
  | .hbm, ⟨76, _⟩ => ⟨S_, .i32⟩
  | .hbm, ⟨77, _⟩ => ⟨S5120x108x2x4x32, .i32⟩
  | .hbm, ⟨78, _⟩ => ⟨S5120x108x2x4x32, .i32⟩
  | .hbm, ⟨79, _⟩ => ⟨S_, .i32⟩
  | .hbm, ⟨80, _⟩ => ⟨S5120x108x2x4x32, .i32⟩
  | .hbm, ⟨81, _⟩ => ⟨S5120x108x2x4x32, .i32⟩
  | .hbm, ⟨82, _⟩ => ⟨S5120x108x2x4x32, .i32⟩
  | .hbm, ⟨83, _⟩ => ⟨S_, .i32⟩
  | .hbm, ⟨84, _⟩ => ⟨S5120x108x2x4x32, .i32⟩
  | .hbm, ⟨85, _⟩ => ⟨S5120x108x2x4x32, .i32⟩
  | .hbm, ⟨86, _⟩ => ⟨S5120x108x2x4x32, .bf16⟩
  | .hbm, ⟨87, _⟩ => ⟨S5120x108x256, .bf16⟩
  | .hbm, ⟨88, _⟩ => ⟨S5120x108x16x16, .bf16⟩
  | .hbm, ⟨89, _⟩ => ⟨S5120x108x256, .bf16⟩
  | .hbm, ⟨90, _⟩ => ⟨S5120x108x256, .bf16⟩
  | .hbm, ⟨91, _⟩ => ⟨S1x128x108x256, .f32⟩
  | .hbm, ⟨92, _⟩ => ⟨S1x128x27648, .f32⟩
  | .hbm, ⟨93, _⟩ => ⟨S1x128x27648, .bf16⟩
  | .local _ .vmem, ⟨0, _⟩ => ⟨S5120x108, .f16⟩
  | .local _ .vmem, ⟨1, _⟩ => ⟨S5120x108, .f32⟩
  | _, _ => ⟨S1x128x5120, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_8 : Ref sig .tc := ⟨.hbm, 63, rfl⟩
abbrev main_v49 : Ref sig .tc := ⟨.hbm, 64, rfl⟩
abbrev main_v50 : Ref sig .tc := ⟨.hbm, 65, rfl⟩
abbrev main_c_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_10 : Ref sig .tc := ⟨.hbm, 76, rfl⟩
abbrev main_v60 : Ref sig .tc := ⟨.hbm, 77, rfl⟩
abbrev main_v61 : Ref sig .tc := ⟨.hbm, 78, rfl⟩
abbrev main_c_11 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c_12 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S5120x108 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x108 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.Loop.lean ====
/- The block loop of the kernel's body: one trip per block of 256 weight rows, four trips per grid point. Each trip
   runs the contraction loop (whose invariant is generated) and stores two 128-lane slabs of the output block. -/
module

public import proofs.«01_k».proof.Proof.Gen.Kernel.Loops
public import proofs.«01_k».proof.Proof.Gen.Kernel.Frame

@[expose] public section

set_option maxRecDepth 16384
set_option maxHeartbeats 2000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- What one trip of the block loop touches: the operands it reads at their contents, the output block at any. -/
abbrev Trip (c : Dev nD) (arg1 : Memref sig .tc .vmem S128x5120 .bf16) (arg2 : Memref sig .tc .vmem S4x32x5120 .i8) (arg3 : Memref sig .tc .vmem S4x64x5120 .i8) (arg6 : Memref sig .tc .vmem S128x1024 .bf16) (arg7 : Memref sig .tc .vmem S8x108x5120 .i32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (f_arg6 : BufTy.Contents (Elt F) arg6.view.ty) : sProp 𝕄 :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg7.view.loc (c : Thread nD τ) ↦[arg7.view.set]{fullShare} X_arg7) ∗ (arg6.view.loc (c : Thread nD τ) ↦[arg6.view.set]{fullShare} f_arg6))

/-- The accumulator a trip's contraction loop ends with. -/
def acc (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (arg0 : BitVec 32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (k : Fin k0_t2_loop.trips) : FVec F S128x256 .f32 :=
  st_k0_t3 (F := F) 𝒱 c bd i arg1 harg1 arg2 harg2 arg3 harg3 arg4 harg4 arg5 harg5 arg6 harg6 arg7 harg7 arg0 0#32 1#32 k (Scf.iv 0#32 1#32 k) (Scalar.addi (Scalar.muli arg0 4#32) (Scf.iv 0#32 1#32 k)) X_arg1 X_arg2 X_arg3 X_arg7 (k0_pay162 (F := F)) k0_t3_loop.trips

/-- The two slabs one trip writes into the output block, the later one first. -/
def tripL (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (arg0 : BitVec 32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (k : Fin k0_t2_loop.trips) : List (View.Piece (Elt F) S128x1024 .bf16) :=
  [⟨Rect.unit (s := S128x1024) (k0_off96 k 128#32) S128x128.size (k0_off96_inb k 1), k0_pay2 k0_pay164 (k0_pay166 (acc 𝒱 c bd i arg1 harg1 arg2 harg2 arg3 harg3 arg4 harg4 arg5 harg5 arg6 harg6 arg7 harg7 arg0 X_arg1 X_arg2 X_arg3 X_arg7 k)) k0_pay167 k0_pay168⟩,
   ⟨Rect.unit (s := S128x1024) (k0_off96 k 0#32) S128x128.size (k0_off96_inb k 0), k0_pay165 (acc 𝒱 c bd i arg1 harg1 arg2 harg2 arg3 harg3 arg4 harg4 arg5 harg5 arg6 harg6 arg7 harg7 arg0 X_arg1 X_arg2 X_arg3 X_arg7 k)⟩]

/-- One trip of the block loop, at a symbolic trip `k`: it writes the two slabs of `tripL`. -/
theorem trip (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (arg0 : BitVec 32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (k : Fin k0_t2_loop.trips) (E : Set ℕ) (f_arg6 : BufTy.Contents (Elt F) arg6.view.ty) :
      Trip (F := F) c arg1 arg2 arg3 arg6 arg7 X_arg1 X_arg2 X_arg3 X_arg7 f_arg6
      ⊢ wp frame (wpE (defs₀ (F := F)) 𝒱 (c : Thread nD τ) bd) E (k0_t2_body (F := F) i arg1 harg1 arg2 harg2 arg3 harg3 arg4 harg4 arg5 harg5 arg6 harg6 arg7 harg7 arg0 k PUnit.unit)
          (fun _ => Trip (F := F) c arg1 arg2 arg3 arg6 arg7 X_arg1 X_arg2 X_arg3 X_arg7 (arg6.view.writes (Elt F) f_arg6 (tripL 𝒱 c bd i arg1 harg1 arg2 harg2 arg3 harg3 arg4 harg4 arg5 harg5 arg6 harg6 arg7 harg7 arg0 X_arg1 X_arg2 X_arg3 X_arg7 k))) := by
  have hk : k.val < 4 := Nat.lt_of_lt_of_le k.isLt k0_t2_abs.2.1
  unfold k0_t2_body
  iintro ⟨HR_arg1, HR_arg2, HR_arg3, HR_arg7, HW_arg6⟩
  sl_exec
  sl_step
  sl_close

/-- Trip `k`'s slabs in front of those of the trips before it; past the last trip, nothing more. -/
@[irreducible] def pbStep (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (arg0 : BitVec 32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (k : ℕ) (prev : List (View.Piece (Elt F) S128x1024 .bf16)) : List (View.Piece (Elt F) S128x1024 .bf16) :=
  if h : k < k0_t2_loop.trips then tripL (F := F) 𝒱 c bd i arg1 harg1 arg2 harg2 arg3 harg3 arg4 harg4 arg5 harg5 arg6 harg6 arg7 harg7 arg0 X_arg1 X_arg2 X_arg3 X_arg7 ⟨k, h⟩ ++ prev else prev

/-- The slabs of the trips before `k`, last first. -/
def pb (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (arg0 : BitVec 32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) : ℕ → List (View.Piece (Elt F) S128x1024 .bf16)
  | 0 => []
  | k + 1 => pbStep 𝒱 c bd i arg1 harg1 arg2 harg2 arg3 harg3 arg4 harg4 arg5 harg5 arg6 harg6 arg7 harg7 arg0 X_arg1 X_arg2 X_arg3 X_arg7 k (pb 𝒱 c bd i arg1 harg1 arg2 harg2 arg3 harg3 arg4 harg4 arg5 harg5 arg6 harg6 arg7 harg7 arg0 X_arg1 X_arg2 X_arg3 X_arg7 k)

theorem pb_succ (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (arg0 : BitVec 32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (k : Fin k0_t2_loop.trips) :
    pb (F := F) 𝒱 c bd i arg1 harg1 arg2 harg2 arg3 harg3 arg4 harg4 arg5 harg5 arg6 harg6 arg7 harg7 arg0 X_arg1 X_arg2 X_arg3 X_arg7 (k.val + 1) = tripL (F := F) 𝒱 c bd i arg1 harg1 arg2 harg2 arg3 harg3 arg4 harg4 arg5 harg5 arg6 harg6 arg7 harg7 arg0 X_arg1 X_arg2 X_arg3 X_arg7 k ++ pb (F := F) 𝒱 c bd i arg1 harg1 arg2 harg2 arg3 harg3 arg4 harg4 arg5 harg5 arg6 harg6 arg7 harg7 arg0 X_arg1 X_arg2 X_arg3 X_arg7 k.val := by
  rw [pb.eq_2]; unfold pbStep; exact dif_pos k.isLt

/-- Before trip `k`: the operands as they were, the output block at what it held with the slabs of the earlier trips
    written over. -/
abbrev inv (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (arg0 : BitVec 32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (G_arg6 : BufTy.Contents (Elt F) arg6.view.ty) (k : ℕ) (_u : PUnit) : sProp 𝕄 :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg7.view.loc (c : Thread nD τ) ↦[arg7.view.set]{fullShare} X_arg7) ∗ (∃ f, (arg6.view.loc (c : Thread nD τ) ↦[arg6.view.set]{fullShare} f) ∗ ⌜f = arg6.view.writes (Elt F) G_arg6 (pb (F := F) 𝒱 c bd i arg1 harg1 arg2 harg2 arg3 harg3 arg4 harg4 arg5 harg5 arg6 harg6 arg7 harg7 arg0 X_arg1 X_arg2 X_arg3 X_arg7 k)⌝))

set_option warn.classDefReducibility false in
/-- The block loop by its invariant. -/
@[sl_loop] def loopInv_k0_t2 (𝒱 : Variants) (c : Dev nD) (bd : Option 𝒱.V) (E : Set ℕ) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (arg0 : BitVec 32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (G_arg6 : BufTy.Contents (Elt F) arg6.view.ty) :
    LoopInvTy_k0_t2 (F := F) Unit ℕ (UR sig nD τ) ℕ 𝒱 c bd E i arg1 harg1 arg2 harg2 arg3 harg3 arg4 harg4 arg5 harg5 arg6 harg6 arg7 harg7 arg0 where
  inv := inv (F := F) 𝒱 c bd i arg1 harg1 arg2 harg2 arg3 harg3 arg4 harg4 arg5 harg5 arg6 harg6 arg7 harg7 arg0 X_arg1 X_arg2 X_arg3 X_arg7 G_arg6
  step k acc := by
    iintro ⟨HR_arg1, HR_arg2, HR_arg3, HR_arg7, ⟨%f_arg6, HW_arg6, %h_arg6⟩⟩
    iapply (wp_wand_r Idealize.ShloMosaic.frame (wpE (defs₀ (F := F)) 𝒱 (c : Thread nD τ) bd) E)
    isplitl [HR_arg1 HR_arg2 HR_arg3 HR_arg7 HW_arg6]
    · iapply (trip (F := F) 𝒱 c bd i arg1 harg1 arg2 harg2 arg3 harg3 arg4 harg4 arg5 harg5 arg6 harg6 arg7 harg7 arg0 X_arg1 X_arg2 X_arg3 X_arg7 k E f_arg6)
      isplitl [HR_arg1]; · iexact HR_arg1
      isplitl [HR_arg2]; · iexact HR_arg2
      isplitl [HR_arg3]; · iexact HR_arg3
      isplitl [HR_arg7]; · iexact HR_arg7
      iexact HW_arg6
    · iintro %_ ⟨HR_arg1, HR_arg2, HR_arg3, HR_arg7, HW_arg6⟩
      isplitl [HR_arg1]; · iexact HR_arg1
      isplitl [HR_arg2]; · iexact HR_arg2
      isplitl [HR_arg3]; · iexact HR_arg3
      isplitl [HR_arg7]; · iexact HR_arg7
      rw [pb_succ]
      iexists _
      isplitl [HW_arg6]; · iexact HW_arg6
      ipureintro; rw [h_arg6, View.writes_append]

end Cert.Kernel.Body

end
-- ==== Proof.Kernel.Runs.lean ====
/- The kernel's body at a grid point, on any staging buffers: point 0 fills the scratch, every later point finds it
   filled; at every point the block loop then writes the whole output block. -/
module

public import proofs.«01_k».proof.Proof.Kernel.Loop
public import Idealize.ShloMosaic.Lib.Ring
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 27 = 0 :=
  (fun t => by
    have ht : t.val < 27 := Nat.lt_of_lt_of_eq t.isLt N_0
    have e0 : (grid0.coords t 0).val = t.val / 1 % 27 := Pipeline.Grid.coords_val t 0 (by decide) rfl
    simp only [cond0_0, k0_cond1, e0]
    word_cmp
   : ∀ t : Fin grid0.N, cond0_0 (grid0.coords t) ↔ t.val % 27 = 0)

/-! ## The kernel body on any staging memrefs: a subtype the run finds -/

/-- One staging buffer of output window 5, through which its contents are stated (`View.read_writes_of_cover`: the
    choice does not matter). -/
abbrev VO0_5 : View sig .tc .vmem S128x1024 .bf16 := (Memref.whole cc0_stg5_0 : Memref sig .tc .vmem S128x1024 .bf16).view
/-- Each window's current staging memref at point `t`, spelled as the pipeline passes it (`bodyAt0`), and its wholeness. -/
abbrev ms0_0 (t : Fin cfg0.N) : Memref sig .tc .vmem S128x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x32x5120 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x64x5120 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x108x5120 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S108x5120 .f16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8x108x5120 .i32 := Memref.whole cc0_scratch0
/-- The scratch `arg7` the kernel carries between points, as a view: what it holds is stated through it. -/
abbrev VS0_0 : View sig .tc .vmem S8x108x5120 .i32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the body writes -/

/-- The slabs the block loop writes into the output block, the scratch holding `xs`. -/
abbrev outL (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (x0 : Vec F S128x5120 .bf16) (x1 : Vec F S4x32x5120 .i8) (x2 : Vec F S4x64x5120 .i8) (xs : Vec F S8x108x5120 .i32) : List (View.Piece (Elt F) S128x1024 .bf16) :=
  pb (F := F) Variants.none c none i arg1 harg1 arg2 harg2 arg3 harg3 arg4 harg4 arg5 harg5 arg6 harg6 arg7 harg7 (BitVec.ofNat 32 (i 0).val) (harg1.unread x0) (harg2.unread x1) (harg3.unread x2) (harg7.unread xs) k0_t2_loop.trips

/-- They tile the output block: 8 slabs of 128 lanes. -/
theorem outL_cover (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (x0 : Vec F S128x5120 .bf16) (x1 : Vec F S4x32x5120 .i8) (x2 : Vec F S4x64x5120 .i8) (xs : Vec F S8x108x5120 .i32) (y : S128x1024.Idx) :
    ∃ pc ∈ outL c i arg1 harg1 arg2 harg2 arg3 harg3 arg4 harg4 arg5 harg5 arg6 harg6 arg7 harg7 x0 x1 x2 xs, y ∈ pc.1.set :=
  View.cover_of_tiledL (outL c i arg1 harg1 arg2 harg2 arg3 harg3 arg4 harg4 arg5 harg5 arg6 harg6 arg7 harg7 x0 x1 x2 xs) S128x128.size (by sl_kernel_rfl) y

/-- The output block after the body, the scratch holding `xs`. -/
def outB (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (x0 : Vec F S128x5120 .bf16) (x1 : Vec F S4x32x5120 .i8) (x2 : Vec F S4x64x5120 .i8) (xs : Vec F S8x108x5120 .i32) : Vec F S128x1024 .bf16 :=
  VO0_5.read (Elt F) (VO0_5.writes (Elt F) VO0_5.junk (outL c i arg1 harg1 arg2 harg2 arg3 harg3 arg4 harg4 arg5 harg5 arg6 harg6 arg7 harg7 x0 x1 x2 xs))

/-- The pieces the scale loop writes into the scratch. -/
abbrev scrL (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (hc0 : cond0_0 i) (x3 : Vec F S12x108x5120 .i8) (x4 : Vec F S108x5120 .f16) : List (View.Piece (Elt F) S8x108x5120 .i32) :=
  pb_k0_t1 (F := F) Variants.none c none i arg1 harg1 arg2 harg2 arg3 harg3 arg4 harg4 arg5 harg5 arg6 harg6 arg7 harg7 hc0 (harg4.unread x3) (harg5.unread x4) k0_t1_loop.trips

/-- They tile the scratch, cut into blocks of `![1, 4, 128]`. -/
theorem scrL_cover (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (hc0 : cond0_0 i) (x3 : Vec F S12x108x5120 .i8) (x4 : Vec F S108x5120 .f16) (y : S8x108x5120.Idx) :
    ∃ pc ∈ scrL c i arg1 harg1 arg2 harg2 arg3 harg3 arg4 harg4 arg5 harg5 arg6 harg6 arg7 harg7 hc0 x3 x4, y ∈ pc.1.set :=
  View.cover_of_tiledBy (scrL c i arg1 harg1 arg2 harg2 arg3 harg3 arg4 harg4 arg5 harg5 arg6 harg6 arg7 harg7 hc0 x3 x4) ![1, 4, 128] (by sl_kernel_rfl) y

/-- The scratch after the scale loop. -/
def scrB (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (hc0 : cond0_0 i) (x3 : Vec F S12x108x5120 .i8) (x4 : Vec F S108x5120 .f16) : Vec F S8x108x5120 .i32 :=
  VS0_0.read (Elt F) (VS0_0.writes (Elt F) VS0_0.junk (scrL c i arg1 harg1 arg2 harg2 arg3 harg3 arg4 harg4 arg5 harg5 arg6 harg6 arg7 harg7 hc0 x3 x4))

/-- Whatever the scratch held, the scale loop leaves it at `scrB`. -/
theorem scr_writes (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (hc0 : cond0_0 i) (x3 : Vec F S12x108x5120 .i8) (x4 : Vec F S108x5120 .f16) (f : BufTy.Contents (Elt F) arg7.view.ty) :
    arg7.view.writes (Elt F) f (scrL c i arg1 harg1 arg2 harg2 arg3 harg3 arg4 harg4 arg5 harg5 arg6 harg6 arg7 harg7 hc0 x3 x4) = harg7.unread (scrB c i arg1 harg1 arg2 harg2 arg3 harg3 arg4 harg4 arg5 harg5 arg6 harg6 arg7 harg7 hc0 x3 x4) :=
  harg7.eq_unread (View.read_writes_of_cover _ _ _ _ _ (scrL_cover c i arg1 harg1 arg2 harg2 arg3 harg3 arg4 harg4 arg5 harg5 arg6 harg6 arg7 harg7 hc0 x3 x4))

set_option maxHeartbeats 1000000 in
/-- The body at the point that fills the scratch. -/
theorem run_A (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (hc0 : cond0_0 i)
    (x0 : Vec F S128x5120 .bf16) (x1 : Vec F S4x32x5120 .i8) (x2 : Vec F S4x64x5120 .i8) (x3 : Vec F S12x108x5120 .i8) (x4 : Vec F S108x5120 .f16) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f (outL c i arg1 harg1 arg2 harg2 arg3 harg3 arg4 harg4 arg5 harg5 arg6 harg6 arg7 harg7 x0 x1 x2 (scrB c i arg1 harg1 arg2 harg2 arg3 harg3 arg4 harg4 arg5 harg5 arg6 harg6 arg7 harg7 hc0 x3 x4))) ∗ owns (c : Thread nD τ) arg7 fullShare (scrB c i arg1 harg1 arg2 harg2 arg3 harg3 arg4 harg4 arg5 harg5 arg6 harg6 arg7 harg7 hc0 x3 x4)) -∗ K ⟨⟩))
          ⊢ wp frame (wpE (defs₀ (F := F)) Variants.none c none) E (cc0__body i arg1 harg1 arg2 harg2 arg3 harg3 arg4 harg4 arg5 harg5 arg6 harg6 arg7 harg7) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    rw [scr_writes c i arg1 harg1 arg2 harg2 arg3 harg3 arg4 harg4 arg5 harg5 arg6 harg6 arg7 harg7 hc0 x3 x4]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS0

set_option maxHeartbeats 1000000 in
/-- The body at every later point: the scratch holds `xs` and keeps it. -/
theorem run_B (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x5120 .i32) (harg7 : arg7.IsWhole) (hc0 : ¬cond0_0 i)
    (x0 : Vec F S128x5120 .bf16) (x1 : Vec F S4x32x5120 .i8) (x2 : Vec F S4x64x5120 .i8) (x3 : Vec F S12x108x5120 .i8) (x4 : Vec F S108x5120 .f16) (xs : Vec F S8x108x5120 .i32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f (outL c i arg1 harg1 arg2 harg2 arg3 harg3 arg4 harg4 arg5 harg5 arg6 harg6 arg7 harg7 x0 x1 x2 xs)) ∗ owns (c : Thread nD τ) arg7 fullShare xs) -∗ K ⟨⟩))
          ⊢ wp frame (wpE (defs₀ (F := F)) Variants.none c none) E (cc0__body i arg1 harg1 arg2 harg2 arg3 harg3 arg4 harg4 arg5 harg5 arg6 harg6 arg7 harg7) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS0

end Cert.Kernel.Body

end
-- ==== Proof.Kernel.Run.lean ====
/- The pipeline's proof data, the body at every grid point, the run of the whole program and its frame: the scratch is
   filled at the first point and carried unchanged through the others. -/
module

public import proofs.«01_k».proof.Proof.Kernel.Runs
public import Idealize.ShloMosaic.Lib.Ring
public import Idealize.ShloMosaic.Lib.WordCmp
public import Idealize.ShloMosaic.Lib.Claim
public import Idealize.ShloMosaic.Lib.Pipeline.FrameSuffix

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

theorem N_pos : 0 < cfg0.N := by have : cfg0.N = 27 := N_0; omega

/-- The condition of filling the scratch holds at the first point. -/
theorem hc_zero : cond0_0 (grid0.coords ⟨0, N_pos⟩) := (hcond0_0 ⟨0, N_pos⟩).mpr (Nat.zero_mod _)

/-- What the scratch holds from the first point on. -/
def scr (c : Dev nD) : Vec F S8x108x5120 .i32 :=
  scrB c (grid0.coords ⟨0, N_pos⟩) (ms0_0 ⟨0, N_pos⟩) (hs0_0 ⟨0, N_pos⟩) (ms0_1 ⟨0, N_pos⟩) (hs0_1 ⟨0, N_pos⟩) (ms0_2 ⟨0, N_pos⟩) (hs0_2 ⟨0, N_pos⟩) (ms0_3 ⟨0, N_pos⟩) (hs0_3 ⟨0, N_pos⟩) (ms0_4 ⟨0, N_pos⟩) (hs0_4 ⟨0, N_pos⟩) (ms0_5 ⟨0, N_pos⟩) (hs0_5 ⟨0, N_pos⟩) scM0_0 (Memref.isWhole_whole _) hc_zero (iblk m c 3 ⟨0, N_pos⟩) (iblk m c 4 ⟨0, N_pos⟩)

/-- What the output's staging buffer holds after the body at point `t`. -/
def out (c : Dev nD) (t : Fin cfg0.N) : Vec F S128x1024 .bf16 :=
  outB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (scr m c)

/-- The region invariant before position `n`: before the first point the scratch at anything; afterwards at `scr`. -/
def PhiS (c : Dev nD) : (n : ℕ) → n ≤ cfg0.N → sProp 𝕄
  | 0, _ => Pipeline.ΦA spec0 c
  | n + 1, hn => iprop(iprop(owns (c : Thread nD τ) scM0_0 fullShare (scr m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scr m c)) ∗ (∃ r, prngReg c r)) := rfl

theorem PhiS_pos (c : Dev nD) (n : ℕ) (h : n ≤ cfg0.N) (hz : n ≠ 0) :
    PhiS m c n h = iprop(iprop(owns (c : Thread nD τ) scM0_0 fullShare (scr m c)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `out`; the scratch by `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 3200000 in
/-- The body at the first point: it fills the scratch and writes the output block. -/
theorem sound_zero (c : Dev nD) :
    bodyPre m c ⟨0, N_pos⟩ ⊢ wp frame (wpE (defs₀ (F := F)) Variants.none c none) Set.univ (bodyAt0 ⟨0, N_pos⟩) (fun _ => bodyPost m c ⟨0, N_pos⟩) := by
    unfold bodyPre bodyPost bodyAt0
    simp only [before0_0, before0_1, before0_2, before0_3, before0_4]
    rw [show (dats m 0 c).owesAt () (Fin.succ ⟨0, N_pos⟩) = (dats m 0 c).owesAt () (Fin.castSucc ⟨0, N_pos⟩) from rfl,
      after0_0, after0_1, after0_2, after0_3, after0_4, after0_5]
    rw [show (dats m 0 c).Φ (Fin.succ ⟨0, N_pos⟩) = PhiS m c (0 + 1) N_pos from rfl, PhiS_succ]
    rw [PhiS_castSucc m c ⟨0, N_pos⟩, PhiS_zero m c _ _ rfl, PhiA0_eq]
    unfold scr
    unfold out outB; (try dsimp only)
    iintro ⟨⟨HS0, Hg⟩, Ho, ⟨%d0, H0⟩, ⟨%d1, H1⟩, ⟨%d2, H2⟩, ⟨%d3, H3⟩, ⟨%d4, H4⟩, ⟨%d5, H5⟩⟩
    iapply (run_A c (grid0.coords ⟨0, N_pos⟩) _ _ _ _ _ _ _ _ _ _ _ _ _ _ hc_zero (iblk m c 0 ⟨0, N_pos⟩) (iblk m c 1 ⟨0, N_pos⟩) (iblk m c 2 ⟨0, N_pos⟩) (iblk m c 3 ⟨0, N_pos⟩) (iblk m c 4 ⟨0, N_pos⟩) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (outL_cover c _ _ _ _ _ _ _ _ _ _ _ _ _ _ _ _ _ _ _)

set_option maxHeartbeats 3200000 in
/-- The body at a later point: it finds the scratch filled and writes the output block. -/
theorem sound_pos (c : Dev nD) (t : Fin cfg0.N) (hz : t.val ≠ 0) :
    bodyPre m c t ⊢ wp frame (wpE (defs₀ (F := F)) Variants.none c none) Set.univ (bodyAt0 t) (fun _ => bodyPost m c t) := by
    have hN : t.val < 27 := lt_of_lt_of_eq t.isLt (show cfg0.N = 27 from N_0)
    have h0 : ¬t.val % 27 = 0 := by omega
    unfold bodyPre bodyPost bodyAt0
    simp only [before0_0, before0_1, before0_2, before0_3, before0_4]
    rw [show (dats m 0 c).owesAt () t.succ = (dats m 0 c).owesAt () t.castSucc from rfl,
      after0_0, after0_1, after0_2, after0_3, after0_4, after0_5]
    rw [show (dats m 0 c).Φ t.succ = PhiS m c (t.val + 1) t.isLt from rfl, PhiS_succ]
    rw [PhiS_castSucc m c t, PhiS_pos m c _ _ hz]
    unfold out outB; (try dsimp only)
    iintro ⟨⟨HS0, Hg⟩, Ho, ⟨%d0, H0⟩, ⟨%d1, H1⟩, ⟨%d2, H2⟩, ⟨%d3, H3⟩, ⟨%d4, H4⟩, ⟨%d5, H5⟩⟩
    iapply (run_B c (grid0.coords t) _ _ _ _ _ _ _ _ _ _ _ _ _ _ (fun h => h0 ((hcond0_0 t).mp h)) (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (outL_cover c _ _ _ _ _ _ _ _ _ _ _ _ _ _ _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · obtain rfl : t = ⟨0, N_pos⟩ := Fin.ext hz
    exact sound_zero m c
  · exact sound_pos m c t hz

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 27 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Body

end
-- ==== Proof.KernelIdeal.Loop.lean ====
/- The block loop of the kernel's body: one trip per block of 256 weight rows, four trips per grid point. Each trip
   runs the contraction loop (whose invariant is generated) and stores two 128-lane slabs of the output block. -/
module

public import proofs.«01_k».proof.Proof.Gen.KernelIdeal.Loops
public import proofs.«01_k».proof.Proof.Gen.KernelIdeal.Frame

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one trip of the block loop touches: the operands it reads at their contents, the output block at any. -/
abbrev Trip (c : Dev nD) (arg1 : Memref sig .tc .vmem S128x5120 .bf16) (arg2 : Memref sig .tc .vmem S4x32x5120 .i8) (arg3 : Memref sig .tc .vmem S4x64x5120 .i8) (arg6 : Memref sig .tc .vmem S128x1024 .bf16) (arg7 : Memref sig .tc .vmem S8x108x2x5120 .bf16) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (f_arg6 : BufTy.Contents (Elt F) arg6.view.ty) : sProp 𝕄 :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg7.view.loc (c : Thread nD τ) ↦[arg7.view.set]{fullShare} X_arg7) ∗ (arg6.view.loc (c : Thread nD τ) ↦[arg6.view.set]{fullShare} f_arg6))

/-- The accumulator a trip's contraction loop ends with. -/
def acc (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (arg0 : BitVec 32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (k : Fin k0_t2_loop.trips) : FVec F S128x256 .f32 :=
  st_k0_t3 (F := F) 𝒱 c bd i arg1 harg1 arg2 harg2 arg3 harg3 arg4 harg4 arg5 harg5 arg6 harg6 arg7 harg7 arg0 0#32 1#32 k (Scf.iv 0#32 1#32 k) (Scalar.addi (Scalar.muli arg0 4#32) (Scf.iv 0#32 1#32 k)) X_arg1 X_arg2 X_arg3 X_arg7 (k0_pay175 (F := F)) k0_t3_loop.trips

/-- The two slabs one trip writes into the output block, the later one first. -/
def tripL (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (arg0 : BitVec 32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (k : Fin k0_t2_loop.trips) : List (View.Piece (Elt F) S128x1024 .bf16) :=
  [⟨Rect.unit (s := S128x1024) (k0_off96 k 128#32) S128x128.size (k0_off96_inb k 1), k0_pay2 k0_pay177 (k0_pay179 (acc 𝒱 c bd i arg1 harg1 arg2 harg2 arg3 harg3 arg4 harg4 arg5 harg5 arg6 harg6 arg7 harg7 arg0 X_arg1 X_arg2 X_arg3 X_arg7 k)) k0_pay180 k0_pay181⟩,
   ⟨Rect.unit (s := S128x1024) (k0_off96 k 0#32) S128x128.size (k0_off96_inb k 0), k0_pay178 (acc 𝒱 c bd i arg1 harg1 arg2 harg2 arg3 harg3 arg4 harg4 arg5 harg5 arg6 harg6 arg7 harg7 arg0 X_arg1 X_arg2 X_arg3 X_arg7 k)⟩]

/-- One trip of the block loop, at a symbolic trip `k`: it writes the two slabs of `tripL`. -/
theorem trip (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (arg0 : BitVec 32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (k : Fin k0_t2_loop.trips) (E : Set ℕ) (f_arg6 : BufTy.Contents (Elt F) arg6.view.ty) :
      Trip (F := F) c arg1 arg2 arg3 arg6 arg7 X_arg1 X_arg2 X_arg3 X_arg7 f_arg6
      ⊢ wp frame (wpE (defs₀ (F := F)) 𝒱 (c : Thread nD τ) bd) E (k0_t2_body (F := F) i arg1 harg1 arg2 harg2 arg3 harg3 arg4 harg4 arg5 harg5 arg6 harg6 arg7 harg7 arg0 k PUnit.unit)
          (fun _ => Trip (F := F) c arg1 arg2 arg3 arg6 arg7 X_arg1 X_arg2 X_arg3 X_arg7 (arg6.view.writes (Elt F) f_arg6 (tripL 𝒱 c bd i arg1 harg1 arg2 harg2 arg3 harg3 arg4 harg4 arg5 harg5 arg6 harg6 arg7 harg7 arg0 X_arg1 X_arg2 X_arg3 X_arg7 k))) := by
  have hk : k.val < 4 := Nat.lt_of_lt_of_le k.isLt k0_t2_abs.2.1
  unfold k0_t2_body
  iintro ⟨HR_arg1, HR_arg2, HR_arg3, HR_arg7, HW_arg6⟩
  sl_exec
  sl_step
  sl_close

/-- Trip `k`'s slabs in front of those of the trips before it; past the last trip, nothing more. -/
@[irreducible] def pbStep (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (arg0 : BitVec 32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (k : ℕ) (prev : List (View.Piece (Elt F) S128x1024 .bf16)) : List (View.Piece (Elt F) S128x1024 .bf16) :=
  if h : k < k0_t2_loop.trips then tripL (F := F) 𝒱 c bd i arg1 harg1 arg2 harg2 arg3 harg3 arg4 harg4 arg5 harg5 arg6 harg6 arg7 harg7 arg0 X_arg1 X_arg2 X_arg3 X_arg7 ⟨k, h⟩ ++ prev else prev

/-- The slabs of the trips before `k`, last first. -/
def pb (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (arg0 : BitVec 32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) : ℕ → List (View.Piece (Elt F) S128x1024 .bf16)
  | 0 => []
  | k + 1 => pbStep 𝒱 c bd i arg1 harg1 arg2 harg2 arg3 harg3 arg4 harg4 arg5 harg5 arg6 harg6 arg7 harg7 arg0 X_arg1 X_arg2 X_arg3 X_arg7 k (pb 𝒱 c bd i arg1 harg1 arg2 harg2 arg3 harg3 arg4 harg4 arg5 harg5 arg6 harg6 arg7 harg7 arg0 X_arg1 X_arg2 X_arg3 X_arg7 k)

theorem pb_succ (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (arg0 : BitVec 32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (k : Fin k0_t2_loop.trips) :
    pb (F := F) 𝒱 c bd i arg1 harg1 arg2 harg2 arg3 harg3 arg4 harg4 arg5 harg5 arg6 harg6 arg7 harg7 arg0 X_arg1 X_arg2 X_arg3 X_arg7 (k.val + 1) = tripL (F := F) 𝒱 c bd i arg1 harg1 arg2 harg2 arg3 harg3 arg4 harg4 arg5 harg5 arg6 harg6 arg7 harg7 arg0 X_arg1 X_arg2 X_arg3 X_arg7 k ++ pb (F := F) 𝒱 c bd i arg1 harg1 arg2 harg2 arg3 harg3 arg4 harg4 arg5 harg5 arg6 harg6 arg7 harg7 arg0 X_arg1 X_arg2 X_arg3 X_arg7 k.val := by
  rw [pb.eq_2]; unfold pbStep; exact dif_pos k.isLt

/-- Before trip `k`: the operands as they were, the output block at what it held with the slabs of the earlier trips
    written over. -/
abbrev inv (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (arg0 : BitVec 32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (G_arg6 : BufTy.Contents (Elt F) arg6.view.ty) (k : ℕ) (_u : PUnit) : sProp 𝕄 :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg7.view.loc (c : Thread nD τ) ↦[arg7.view.set]{fullShare} X_arg7) ∗ (∃ f, (arg6.view.loc (c : Thread nD τ) ↦[arg6.view.set]{fullShare} f) ∗ ⌜f = arg6.view.writes (Elt F) G_arg6 (pb (F := F) 𝒱 c bd i arg1 harg1 arg2 harg2 arg3 harg3 arg4 harg4 arg5 harg5 arg6 harg6 arg7 harg7 arg0 X_arg1 X_arg2 X_arg3 X_arg7 k)⌝))

set_option warn.classDefReducibility false in
/-- The block loop by its invariant. -/
@[sl_loop] def loopInv_k0_t2 (𝒱 : Variants) (c : Dev nD) (bd : Option 𝒱.V) (E : Set ℕ) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (arg0 : BitVec 32) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (G_arg6 : BufTy.Contents (Elt F) arg6.view.ty) :
    LoopInvTy_k0_t2 (F := F) Unit ℕ (UR sig nD τ) ℕ 𝒱 c bd E i arg1 harg1 arg2 harg2 arg3 harg3 arg4 harg4 arg5 harg5 arg6 harg6 arg7 harg7 arg0 where
  inv := inv (F := F) 𝒱 c bd i arg1 harg1 arg2 harg2 arg3 harg3 arg4 harg4 arg5 harg5 arg6 harg6 arg7 harg7 arg0 X_arg1 X_arg2 X_arg3 X_arg7 G_arg6
  step k acc := by
    iintro ⟨HR_arg1, HR_arg2, HR_arg3, HR_arg7, ⟨%f_arg6, HW_arg6, %h_arg6⟩⟩
    iapply (wp_wand_r Idealize.ShloMosaic.frame (wpE (defs₀ (F := F)) 𝒱 (c : Thread nD τ) bd) E)
    isplitl [HR_arg1 HR_arg2 HR_arg3 HR_arg7 HW_arg6]
    · iapply (trip (F := F) 𝒱 c bd i arg1 harg1 arg2 harg2 arg3 harg3 arg4 harg4 arg5 harg5 arg6 harg6 arg7 harg7 arg0 X_arg1 X_arg2 X_arg3 X_arg7 k E f_arg6)
      isplitl [HR_arg1]; · iexact HR_arg1
      isplitl [HR_arg2]; · iexact HR_arg2
      isplitl [HR_arg3]; · iexact HR_arg3
      isplitl [HR_arg7]; · iexact HR_arg7
      iexact HW_arg6
    · iintro %_ ⟨HR_arg1, HR_arg2, HR_arg3, HR_arg7, HW_arg6⟩
      isplitl [HR_arg1]; · iexact HR_arg1
      isplitl [HR_arg2]; · iexact HR_arg2
      isplitl [HR_arg3]; · iexact HR_arg3
      isplitl [HR_arg7]; · iexact HR_arg7
      rw [pb_succ]
      iexists _
      isplitl [HW_arg6]; · iexact HW_arg6
      ipureintro; rw [h_arg6, View.writes_append]

end Cert.KernelIdeal.Body

end
-- ==== Proof.KernelIdeal.Runs.lean ====
/- The kernel's body at a grid point, on any staging buffers: point 0 fills the scratch, every later point finds it
   filled; at every point the block loop then writes the whole output block. -/
module

public import proofs.«01_k».proof.Proof.KernelIdeal.Loop
public import Idealize.ShloMosaic.Lib.Ring
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 27 = 0 :=
  (fun t => by
    have ht : t.val < 27 := Nat.lt_of_lt_of_eq t.isLt N_0
    have e0 : (grid0.coords t 0).val = t.val / 1 % 27 := Pipeline.Grid.coords_val t 0 (by decide) rfl
    simp only [cond0_0, k0_cond1, e0]
    word_cmp
   : ∀ t : Fin grid0.N, cond0_0 (grid0.coords t) ↔ t.val % 27 = 0)

/-! ## The kernel body on any staging memrefs: a subtype the run finds -/

/-- One staging buffer of output window 5, through which its contents are stated (`View.read_writes_of_cover`: the
    choice does not matter). -/
abbrev VO0_5 : View sig .tc .vmem S128x1024 .bf16 := (Memref.whole cc0_stg5_0 : Memref sig .tc .vmem S128x1024 .bf16).view
/-- Each window's current staging memref at point `t`, spelled as the pipeline passes it (`bodyAt0`), and its wholeness. -/
abbrev ms0_0 (t : Fin cfg0.N) : Memref sig .tc .vmem S128x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x32x5120 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x64x5120 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x108x5120 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S108x5120 .f16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8x108x2x5120 .bf16 := Memref.whole cc0_scratch0
/-- The scratch `arg7` the kernel carries between points, as a view: what it holds is stated through it. -/
abbrev VS0_0 : View sig .tc .vmem S8x108x2x5120 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the body writes -/

/-- The slabs the block loop writes into the output block, the scratch holding `xs`. -/
abbrev outL (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (x0 : Vec F S128x5120 .bf16) (x1 : Vec F S4x32x5120 .i8) (x2 : Vec F S4x64x5120 .i8) (xs : Vec F S8x108x2x5120 .bf16) : List (View.Piece (Elt F) S128x1024 .bf16) :=
  pb (F := F) Variants.none c none i arg1 harg1 arg2 harg2 arg3 harg3 arg4 harg4 arg5 harg5 arg6 harg6 arg7 harg7 (BitVec.ofNat 32 (i 0).val) (harg1.unread x0) (harg2.unread x1) (harg3.unread x2) (harg7.unread xs) k0_t2_loop.trips

/-- They tile the output block: 8 slabs of 128 lanes. -/
theorem outL_cover (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (x0 : Vec F S128x5120 .bf16) (x1 : Vec F S4x32x5120 .i8) (x2 : Vec F S4x64x5120 .i8) (xs : Vec F S8x108x2x5120 .bf16) (y : S128x1024.Idx) :
    ∃ pc ∈ outL c i arg1 harg1 arg2 harg2 arg3 harg3 arg4 harg4 arg5 harg5 arg6 harg6 arg7 harg7 x0 x1 x2 xs, y ∈ pc.1.set :=
  View.cover_of_tiledL (outL c i arg1 harg1 arg2 harg2 arg3 harg3 arg4 harg4 arg5 harg5 arg6 harg6 arg7 harg7 x0 x1 x2 xs) S128x128.size (by sl_kernel_rfl) y

/-- The output block after the body, the scratch holding `xs`. -/
def outB (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (x0 : Vec F S128x5120 .bf16) (x1 : Vec F S4x32x5120 .i8) (x2 : Vec F S4x64x5120 .i8) (xs : Vec F S8x108x2x5120 .bf16) : Vec F S128x1024 .bf16 :=
  VO0_5.read (Elt F) (VO0_5.writes (Elt F) VO0_5.junk (outL c i arg1 harg1 arg2 harg2 arg3 harg3 arg4 harg4 arg5 harg5 arg6 harg6 arg7 harg7 x0 x1 x2 xs))

/-- The pieces the scale loop writes into the scratch. -/
abbrev scrL (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (hc0 : cond0_0 i) (x3 : Vec F S12x108x5120 .i8) (x4 : Vec F S108x5120 .f16) : List (View.Piece (Elt F) S8x108x2x5120 .bf16) :=
  pb_k0_t1 (F := F) Variants.none c none i arg1 harg1 arg2 harg2 arg3 harg3 arg4 harg4 arg5 harg5 arg6 harg6 arg7 harg7 hc0 (harg4.unread x3) (harg5.unread x4) k0_t1_loop.trips

/-- They tile the scratch, cut into blocks of `![1, 4, 2, 128]`. -/
theorem scrL_cover (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (hc0 : cond0_0 i) (x3 : Vec F S12x108x5120 .i8) (x4 : Vec F S108x5120 .f16) (y : S8x108x2x5120.Idx) :
    ∃ pc ∈ scrL c i arg1 harg1 arg2 harg2 arg3 harg3 arg4 harg4 arg5 harg5 arg6 harg6 arg7 harg7 hc0 x3 x4, y ∈ pc.1.set :=
  View.cover_of_tiledBy (scrL c i arg1 harg1 arg2 harg2 arg3 harg3 arg4 harg4 arg5 harg5 arg6 harg6 arg7 harg7 hc0 x3 x4) ![1, 4, 2, 128] (by sl_kernel_rfl) y

/-- The scratch after the scale loop. -/
def scrB (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (hc0 : cond0_0 i) (x3 : Vec F S12x108x5120 .i8) (x4 : Vec F S108x5120 .f16) : Vec F S8x108x2x5120 .bf16 :=
  VS0_0.read (Elt F) (VS0_0.writes (Elt F) VS0_0.junk (scrL c i arg1 harg1 arg2 harg2 arg3 harg3 arg4 harg4 arg5 harg5 arg6 harg6 arg7 harg7 hc0 x3 x4))

/-- Whatever the scratch held, the scale loop leaves it at `scrB`. -/
theorem scr_writes (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (hc0 : cond0_0 i) (x3 : Vec F S12x108x5120 .i8) (x4 : Vec F S108x5120 .f16) (f : BufTy.Contents (Elt F) arg7.view.ty) :
    arg7.view.writes (Elt F) f (scrL c i arg1 harg1 arg2 harg2 arg3 harg3 arg4 harg4 arg5 harg5 arg6 harg6 arg7 harg7 hc0 x3 x4) = harg7.unread (scrB c i arg1 harg1 arg2 harg2 arg3 harg3 arg4 harg4 arg5 harg5 arg6 harg6 arg7 harg7 hc0 x3 x4) :=
  harg7.eq_unread (View.read_writes_of_cover _ _ _ _ _ (scrL_cover c i arg1 harg1 arg2 harg2 arg3 harg3 arg4 harg4 arg5 harg5 arg6 harg6 arg7 harg7 hc0 x3 x4))

set_option maxHeartbeats 1000000 in
/-- The body at the point that fills the scratch. -/
theorem run_A (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (hc0 : cond0_0 i)
    (x0 : Vec F S128x5120 .bf16) (x1 : Vec F S4x32x5120 .i8) (x2 : Vec F S4x64x5120 .i8) (x3 : Vec F S12x108x5120 .i8) (x4 : Vec F S108x5120 .f16) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f (outL c i arg1 harg1 arg2 harg2 arg3 harg3 arg4 harg4 arg5 harg5 arg6 harg6 arg7 harg7 x0 x1 x2 (scrB c i arg1 harg1 arg2 harg2 arg3 harg3 arg4 harg4 arg5 harg5 arg6 harg6 arg7 harg7 hc0 x3 x4))) ∗ owns (c : Thread nD τ) arg7 fullShare (scrB c i arg1 harg1 arg2 harg2 arg3 harg3 arg4 harg4 arg5 harg5 arg6 harg6 arg7 harg7 hc0 x3 x4)) -∗ K ⟨⟩))
          ⊢ wp frame (wpE (defs₀ (F := F)) Variants.none c none) E (cc0__body i arg1 harg1 arg2 harg2 arg3 harg3 arg4 harg4 arg5 harg5 arg6 harg6 arg7 harg7) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    rw [scr_writes c i arg1 harg1 arg2 harg2 arg3 harg3 arg4 harg4 arg5 harg5 arg6 harg6 arg7 harg7 hc0 x3 x4]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS0

set_option maxHeartbeats 1000000 in
/-- The body at every later point: the scratch holds `xs` and keeps it. -/
theorem run_B (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (hc0 : ¬cond0_0 i)
    (x0 : Vec F S128x5120 .bf16) (x1 : Vec F S4x32x5120 .i8) (x2 : Vec F S4x64x5120 .i8) (x3 : Vec F S12x108x5120 .i8) (x4 : Vec F S108x5120 .f16) (xs : Vec F S8x108x2x5120 .bf16) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f (outL c i arg1 harg1 arg2 harg2 arg3 harg3 arg4 harg4 arg5 harg5 arg6 harg6 arg7 harg7 x0 x1 x2 xs)) ∗ owns (c : Thread nD τ) arg7 fullShare xs) -∗ K ⟨⟩))
          ⊢ wp frame (wpE (defs₀ (F := F)) Variants.none c none) E (cc0__body i arg1 harg1 arg2 harg2 arg3 harg3 arg4 harg4 arg5 harg5 arg6 harg6 arg7 harg7) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS0

end Cert.KernelIdeal.Body

end
-- ==== Proof.KernelIdeal.Run.lean ====
/- The pipeline's proof data, the body at every grid point, the run of the whole program and its frame: the scratch is
   filled at the first point and carried unchanged through the others. -/
module

public import proofs.«01_k».proof.Proof.KernelIdeal.Runs
public import Idealize.ShloMosaic.Lib.Ring
public import Idealize.ShloMosaic.Lib.WordCmp
public import Idealize.ShloMosaic.Lib.Claim
public import Idealize.ShloMosaic.Lib.Pipeline.FrameSuffix

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_pos : 0 < cfg0.N := by have : cfg0.N = 27 := N_0; omega

/-- The condition of filling the scratch holds at the first point. -/
theorem hc_zero : cond0_0 (grid0.coords ⟨0, N_pos⟩) := (hcond0_0 ⟨0, N_pos⟩).mpr (Nat.zero_mod _)

/-- What the scratch holds from the first point on. -/
def scr (c : Dev nD) : Vec F S8x108x2x5120 .bf16 :=
  scrB c (grid0.coords ⟨0, N_pos⟩) (ms0_0 ⟨0, N_pos⟩) (hs0_0 ⟨0, N_pos⟩) (ms0_1 ⟨0, N_pos⟩) (hs0_1 ⟨0, N_pos⟩) (ms0_2 ⟨0, N_pos⟩) (hs0_2 ⟨0, N_pos⟩) (ms0_3 ⟨0, N_pos⟩) (hs0_3 ⟨0, N_pos⟩) (ms0_4 ⟨0, N_pos⟩) (hs0_4 ⟨0, N_pos⟩) (ms0_5 ⟨0, N_pos⟩) (hs0_5 ⟨0, N_pos⟩) scM0_0 (Memref.isWhole_whole _) hc_zero (iblk m c 3 ⟨0, N_pos⟩) (iblk m c 4 ⟨0, N_pos⟩)

/-- What the output's staging buffer holds after the body at point `t`. -/
def out (c : Dev nD) (t : Fin cfg0.N) : Vec F S128x1024 .bf16 :=
  outB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (scr m c)

/-- The region invariant before position `n`: before the first point the scratch at anything; afterwards at `scr`. -/
def PhiS (c : Dev nD) : (n : ℕ) → n ≤ cfg0.N → sProp 𝕄
  | 0, _ => Pipeline.ΦA spec0 c
  | n + 1, hn => iprop(iprop(owns (c : Thread nD τ) scM0_0 fullShare (scr m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scr m c)) ∗ (∃ r, prngReg c r)) := rfl

theorem PhiS_pos (c : Dev nD) (n : ℕ) (h : n ≤ cfg0.N) (hz : n ≠ 0) :
    PhiS m c n h = iprop(iprop(owns (c : Thread nD τ) scM0_0 fullShare (scr m c)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `out`; the scratch by `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 3200000 in
/-- The body at the first point: it fills the scratch and writes the output block. -/
theorem sound_zero (c : Dev nD) :
    bodyPre m c ⟨0, N_pos⟩ ⊢ wp frame (wpE (defs₀ (F := F)) Variants.none c none) Set.univ (bodyAt0 ⟨0, N_pos⟩) (fun _ => bodyPost m c ⟨0, N_pos⟩) := by
    unfold bodyPre bodyPost bodyAt0
    simp only [before0_0, before0_1, before0_2, before0_3, before0_4]
    rw [show (dats m 0 c).owesAt () (Fin.succ ⟨0, N_pos⟩) = (dats m 0 c).owesAt () (Fin.castSucc ⟨0, N_pos⟩) from rfl,
      after0_0, after0_1, after0_2, after0_3, after0_4, after0_5]
    rw [show (dats m 0 c).Φ (Fin.succ ⟨0, N_pos⟩) = PhiS m c (0 + 1) N_pos from rfl, PhiS_succ]
    rw [PhiS_castSucc m c ⟨0, N_pos⟩, PhiS_zero m c _ _ rfl, PhiA0_eq]
    unfold scr
    unfold out outB; (try dsimp only)
    iintro ⟨⟨HS0, Hg⟩, Ho, ⟨%d0, H0⟩, ⟨%d1, H1⟩, ⟨%d2, H2⟩, ⟨%d3, H3⟩, ⟨%d4, H4⟩, ⟨%d5, H5⟩⟩
    iapply (run_A c (grid0.coords ⟨0, N_pos⟩) _ _ _ _ _ _ _ _ _ _ _ _ _ _ hc_zero (iblk m c 0 ⟨0, N_pos⟩) (iblk m c 1 ⟨0, N_pos⟩) (iblk m c 2 ⟨0, N_pos⟩) (iblk m c 3 ⟨0, N_pos⟩) (iblk m c 4 ⟨0, N_pos⟩) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (outL_cover c _ _ _ _ _ _ _ _ _ _ _ _ _ _ _ _ _ _ _)

set_option maxHeartbeats 3200000 in
/-- The body at a later point: it finds the scratch filled and writes the output block. -/
theorem sound_pos (c : Dev nD) (t : Fin cfg0.N) (hz : t.val ≠ 0) :
    bodyPre m c t ⊢ wp frame (wpE (defs₀ (F := F)) Variants.none c none) Set.univ (bodyAt0 t) (fun _ => bodyPost m c t) := by
    have hN : t.val < 27 := lt_of_lt_of_eq t.isLt (show cfg0.N = 27 from N_0)
    have h0 : ¬t.val % 27 = 0 := by omega
    unfold bodyPre bodyPost bodyAt0
    simp only [before0_0, before0_1, before0_2, before0_3, before0_4]
    rw [show (dats m 0 c).owesAt () t.succ = (dats m 0 c).owesAt () t.castSucc from rfl,
      after0_0, after0_1, after0_2, after0_3, after0_4, after0_5]
    rw [show (dats m 0 c).Φ t.succ = PhiS m c (t.val + 1) t.isLt from rfl, PhiS_succ]
    rw [PhiS_castSucc m c t, PhiS_pos m c _ _ hz]
    unfold out outB; (try dsimp only)
    iintro ⟨⟨HS0, Hg⟩, Ho, ⟨%d0, H0⟩, ⟨%d1, H1⟩, ⟨%d2, H2⟩, ⟨%d3, H3⟩, ⟨%d4, H4⟩, ⟨%d5, H5⟩⟩
    iapply (run_B c (grid0.coords t) _ _ _ _ _ _ _ _ _ _ _ _ _ _ (fun h => h0 ((hcond0_0 t).mp h)) (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (outL_cover c _ _ _ _ _ _ _ _ _ _ _ _ _ _ _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · obtain rfl : t = ⟨0, N_pos⟩ := Fin.ext hz
    exact sound_zero m c
  · exact sound_pos m c t hz

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 27 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Body

end
-- ==== Proof.Preserves.lean ====
/- The ideal pass's sites in the kernel, as their seven distinct statements: the scratch of packed bf16 words re-typed to
   row pairs, each word packed at the two row counts, the words stored, loaded and spread over bf16 rows. -/
module

public import proofs.«01_k».proof.Defs
public import Idealize.ShloMosaic.Lib.Bf16Pair
public import Idealize.ShloMosaic.Lib.Bf16PairInverse

@[expose] public section

namespace Cert.Proof

open Idealize.ShloMosaic

theorem preserves : Cert.preserves_Kernel_KernelIdeal :=
  ⟨IdealRules.bf16_pair.bufferStatement _ _, IdealRules.bf16_pair.packStatement _, IdealRules.bf16_pair.statement _ _,
    IdealRules.bf16_pair.packStatement _, IdealRules.bf16_pair.statement _ _, IdealRules.bf16_pair.statement _ _,
    IdealRules.bf16_pair.statement _ _⟩

end Cert.Proof
-- ==== Proof.Value.Bits.lean ====
/- The words of the dequantisation: the nibble the kernel cuts out of a packed word of the low bits and a packed word of
   the high bits is twice the signed 3-bit weight the format defines, bit by bit. -/
module

public import Idealize.ShloMosaic.Lib.BitcastFour
public import Mathlib.Tactic.IntervalCases

@[expose] public section

namespace Cert.Bits

/-- The word of high bits, inverted, with bit pairs 2–3 and 4–5 of each byte exchanged. -/
def swap (H : BitVec 32) : BitVec 32 :=
  (H ^^^ 4294967295#32) ^^^ (((H ^^^ 4294967295#32) ^^^ ((H ^^^ 4294967295#32) >>> 2)) &&& 202116108#32)
    ^^^ ((((H ^^^ 4294967295#32) ^^^ ((H ^^^ 4294967295#32) >>> 2)) &&& 202116108#32) <<< 2)

/-- The word of eight nibbles made of two low bits of `Q` and one bit of `s`: the even bit pairs. -/
def codeE (Q s : BitVec 32) : BitVec 32 := ((Q &&& 858993459#32) ||| (s &&& 1145324612#32)) <<< 1

/-- The same with the odd bit pairs. -/
def codeO (Q s : BitVec 32) : BitVec 32 := ((Q >>> 1) &&& 1717986918#32) ||| (s &&& 2290649224#32)

/-- Nibble `n` of a word, sign-extended. -/
def nib (c : BitVec 32) (n : ℕ) : BitVec 32 := (c <<< (28 - 4 * n)).sshiftRight 28

/-- The word of the code for half `h` and parity `jp`. -/
def code (h jp : ℕ) (Q H : BitVec 32) : BitVec 32 :=
  if jp = 0 then codeE Q (if h = 0 then swap H <<< 2 else swap H) else codeO Q (if h = 0 then swap H <<< 2 else swap H)

/-- The word of four bits, sign-extended. -/
def quad (a b c d : Bool) : BitVec 32 :=
  (if a then 1#32 else 0#32) ||| (if b then 2#32 else 0#32) ||| (if c then 4#32 else 0#32) ||| (if d then 4294967288#32 else 0#32)

theorem quad_bit (a b c d : Bool) : ∀ q : Fin 32, (quad a b c d).getLsbD q = if q.val = 0 then a else if q.val = 1 then b else if q.val = 2 then c else d := by
  revert a b c d; decide +kernel

theorem nib_eq (c : BitVec 32) (n : ℕ) (hn : n < 8) :
    nib c n = quad (c.getLsbD (4 * n)) (c.getLsbD (4 * n + 1)) (c.getLsbD (4 * n + 2)) (c.getLsbD (4 * n + 3)) := by
  apply BitVec.eq_of_getLsbD_eq
  intro q hq
  rw [quad_bit _ _ _ _ ⟨q, hq⟩]
  simp only [nib, BitVec.getLsbD_sshiftRight, BitVec.getLsbD_shiftLeft, BitVec.msb_eq_getLsbD_last]
  have e0 : q = 0 ∨ q = 1 ∨ q = 2 ∨ q = 3 ∨ 4 ≤ q := by omega
  rcases e0 with rfl | rfl | rfl | rfl | h
  any_goals (interval_cases n <;> simp <;> done)
  have e1 : ¬ 28 + q < 32 := by omega
  have e2 : q ≠ 0 := by omega
  have e3 : q ≠ 1 := by omega
  have e4 : q ≠ 2 := by omega
  have e5 : ¬ 32 ≤ q := by omega
  interval_cases n <;> simp [e1, e2, e3, e4, e5]

/-- The two low bits and the high bit of weight `n` of a word pair. -/
theorem nib_code (h jp n : ℕ) (hh : h < 2) (hj : jp < 2) (hn : n < 8) (Q H : BitVec 32) :
    nib (code h jp Q H) n = quad false (Q.getLsbD (4 * n + 2 * jp)) (Q.getLsbD (4 * n + 2 * jp + 1))
      (! H.getLsbD (8 * (n / 2) + 4 * h + 2 * (n % 2) + jp)) := by
  rw [nib_eq _ _ hn]
  have x1 (a b : Bool) : (a != (b != a)) = b := by revert a b; decide
  interval_cases h <;> interval_cases jp <;> interval_cases n <;>
    simp [code, codeE, codeO, swap, x1]

/-- A field of one bit of a byte, widened. -/
theorem bit1 (b : BitVec 8) (s : ℕ) (hs : s < 8) :
    ((b.setWidth 32).sshiftRight s) &&& 1#32 = if b.getLsbD s then 1#32 else 0#32 := by
  revert b; interval_cases s <;> decide +kernel

/-- A field of two bits of a byte, widened. -/
theorem bit2 (b : BitVec 8) (s : ℕ) (hs : s < 7) :
    ((b.setWidth 32).sshiftRight s) &&& 3#32 = (if b.getLsbD s then 1#32 else 0#32) ||| (if b.getLsbD (s + 1) then 2#32 else 0#32) := by
  revert b; interval_cases s <;> decide +kernel

/-- The nibble is twice the weight. -/
theorem quad_toInt (a b c : Bool) :
    (quad false a b (!c)).toInt = 2 * ((((if a then 1#32 else 0#32) ||| (if b then 2#32 else 0#32))
      + 4#32 * (if c then 1#32 else 0#32) - 4#32).toInt) := by
  revert a b c; decide +kernel

end Cert.Bits
end
-- ==== Proof.Value.Nib.lean ====
/- The weights of one chunk of the contraction at an index: nibbles of the packed words times the group's scale. -/
module

public import proofs.«01_k».proof.Proof.KernelIdeal.Loop
public import proofs.«01_k».proof.Proof.Value.Bits
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.ShloMosaic.Tactic

/-! ## Nibbles -/

/-- The nibbles of a block of words, one row per nibble. -/
def nibbles (W : IVec S8x512 32) : FVec Ideal S64x512 .bf16 := k0_pay163 (F := Ideal) W

theorem pay160_eq (W : IVec S8x512 32) : k0_pay160 (F := Ideal) (shapeCast S8x1x512 W shapeCasts_S8x512_S8x1x512) = nibbles W := rfl
theorem pay168_eq (W s : IVec S8x512 32) : k0_pay168 (F := Ideal) W s = nibbles (shli W s) := rfl

theorem nibbles_apply (W : IVec S8x512 32) (r : Fin 64) (o : Fin 512) :
    nibbles W (ix2 r o) = (((Cert.Bits.nib (W (ix2 ⟨r.val / 8, by omega⟩ o)) (r.val % 8)).toInt : ℝ) : EReal) := by
  unfold nibbles k0_pay163
  dsimp only
  rw [ValueIdx.sitofp_apply]
  rw [shapeCast_apply _ _ (ix2 r o) (ix3 (⟨r.val / 8, by omega⟩ : Fin 8) (⟨r.val % 8, by omega⟩ : Fin 8) o) (by
    rewrite [Shape.rowMajor_val_three, Shape.rowMajor_val_two]
    show ((r.val / 8) * 8 + r.val % 8) * 512 + o.val = r.val * 512 + o.val
    omega)]
  pointwise
  have e : IntOp.subi 28#32 (IntOp.muli 4#32 (BitVec.ofNat 32 (r.val % 8))) = BitVec.ofNat 32 (28 - 4 * (r.val % 8)) := by
    have h : r.val % 8 < 8 := Nat.mod_lt _ (by omega)
    generalize r.val % 8 = n at h
    interval_cases n <;> rfl
  rw [e]
  show ((((IntOp.shrsi _ _ _ : BitVec 32).toInt : ℝ)) : EReal) = _
  congr 3
  have h : 28 - 4 * (r.val % 8) < 2 ^ 32 := by omega
  simp only [IntOp.shli, IntOp.shrsi, Cert.Bits.nib, BitVec.toNat_ofNat, Nat.mod_eq_of_lt h, BitVec.shiftLeft_eq',
    BitVec.sshiftRight_eq']
  rw [if_pos (by omega), if_pos (by omega)]

/-! ## The code words -/

/-- The block of code words for half `h` and parity `jp`. -/
def cw (h jp : ℕ) (Q : IVec S16x512 32) (H : IVec S8x512 32) : IVec S8x512 32 := fun j =>
  Cert.Bits.code h jp (Q (ix2 ⟨8 * (h % 2) + (j 0).val, by have := (j 0).isLt; change _ < 8 at this; omega⟩ (j 1))) (H j)

theorem cw00 (Q : IVec S16x512 32) (H : IVec S8x512 32) :
    k0_pay159 Q H = shapeCast S8x1x512 (cw 0 0 Q H) shapeCasts_S8x512_S8x1x512 := by
  unfold k0_pay159
  dsimp only
  congr 1
  funext j
  unfold k0_pay157 k0_pay156 k0_pay154
  dsimp only
  idx_vars j
  pointwise
  unfold cw
  simp only [Nat.zero_mod, Nat.mul_zero, Nat.zero_add, ix2_0, ix2_1]
  rfl

theorem cw01 (Q : IVec S16x512 32) (H : IVec S8x512 32) : k0_pay158 Q H = cw 0 1 Q H := by
  unfold k0_pay158
  dsimp only
  funext j
  unfold k0_pay157 k0_pay156 k0_pay154
  dsimp only
  idx_vars j
  pointwise
  unfold cw
  simp only [Nat.zero_mod, Nat.mul_zero, Nat.zero_add, ix2_0, ix2_1]
  rfl

theorem cw10 (Q : IVec S16x512 32) (H : IVec S8x512 32) :
    shli (k0_pay166 (k0_pay155 Q) (k0_pay156 H)) k0_pay167 = cw 1 0 Q H := by
  funext j
  unfold k0_pay166 k0_pay167 k0_pay156 k0_pay155
  dsimp only
  idx_vars j
  pointwise
  unfold cw
  simp only [Nat.one_mod, Nat.mul_one, ix2_0, ix2_1]
  rfl

/-- The word of the odd code of the second half, at an index. -/
def codeO1 (Q : IVec S16x512 32) (H : IVec S8x512 32) : IVec S8x512 32 :=
  ori (andi (shrui (k0_pay155 Q) (broadcast S8x512 1#32)) (broadcast S8x512 1717986918#32))
    (andi (k0_pay156 H) (broadcast S8x512 2290649224#32))

theorem pay171_eq (Q : IVec S16x512 32) (H : IVec S8x512 32) :
    k0_pay171 (F := Ideal) (k0_pay155 Q) (k0_pay156 H) = nibbles (codeO1 Q H) := rfl

theorem cw11 (Q : IVec S16x512 32) (H : IVec S8x512 32) : codeO1 Q H = cw 1 1 Q H := by
  funext j
  unfold codeO1 k0_pay156 k0_pay155
  dsimp only
  idx_vars j
  pointwise
  unfold cw
  simp only [Nat.one_mod, Nat.mul_one, ix2_0, ix2_1]
  rfl

/-! ## The weight at an index -/

/-- The signed 3-bit weight: bits 2 j of a byte of low bits and bit 4 h + j of a byte of high bits, less 4. -/
def qz (qb hb : BitVec 8) (h j : ℕ) : ℤ :=
  (((if qb.getLsbD (2 * j) then 1#32 else 0#32) ||| (if qb.getLsbD (2 * j + 1) then 2#32 else 0#32))
    + 4#32 * (if hb.getLsbD (4 * h + j) then 1#32 else 0#32) - 4#32).toInt

theorem ix2_eq {a b : ℕ} (i : Fin a) (j : Fin b) : ValueIdx.ix2 i j = ix2 i j := by
  funext k; match k with | ⟨0, _⟩ => rfl | ⟨1, _⟩ => rfl

theorem byteQ (x : Vec Ideal S1x64x512 .i8) (a : Fin 16) (o : Fin 512) (q : ℕ) (hq : q < 32) (p : Fin 64) (hp : p.val = 4 * a.val + q / 8) :
    (k0_pay136 x (ix2 a o)).getLsbD q = (x (ix3 0 p o) : BitVec 8).getLsbD (q % 8) := by
  unfold k0_pay136
  rw [← ix2_eq]
  refine (bitcast_8_32_getLsbD_ix2 _ bitcasts_S64x512_w8_S16x512_w32 a o q hq p hp).trans ?_
  rw [ix2_eq]
  pointwise

theorem byteH (x : Vec Ideal S1x32x512 .i8) (a : Fin 8) (o : Fin 512) (q : ℕ) (hq : q < 32) (p : Fin 32) (hp : p.val = 4 * a.val + q / 8) :
    (k0_pay137 x (ix2 a o)).getLsbD q = (x (ix3 0 p o) : BitVec 8).getLsbD (q % 8) := by
  unfold k0_pay137
  rw [← ix2_eq]
  refine (bitcast_8_32_getLsbD_ix2 _ bitcasts_S32x512_w8_S8x512_w32 a o q hq p hp).trans ?_
  rw [ix2_eq]
  pointwise

/-- Nibble row `r` of half `h`, parity `jp` is twice weight `32 h + r / 2`, field `2 (r % 2) + jp`. -/
theorem nib_row (xq : Vec Ideal S1x64x512 .i8) (xh : Vec Ideal S1x32x512 .i8) (h jp : ℕ) (hh : h < 2) (hj : jp < 2) (r : Fin 64) (o : Fin 512) :
    nibbles (cw h jp (k0_pay136 xq) (k0_pay137 xh)) (ix2 r o)
      = (((2 * qz (xq (ix3 0 ⟨32 * h + r.val / 2, by omega⟩ o)) (xh (ix3 0 ⟨r.val / 2, by omega⟩ o)) h (2 * (r.val % 2) + jp) : ℤ) : ℝ) : EReal) := by
  rw [nibbles_apply]
  congr 2
  unfold cw
  simp only [ix2_0, ix2_1]
  rw [Cert.Bits.nib_code h jp (r.val % 8) hh hj (by omega),
    byteQ xq _ o (4 * (r.val % 8) + 2 * jp) (by omega) ⟨32 * h + r.val / 2, by omega⟩ (by show 32 * h + r.val / 2 = 4 * (8 * (h % 2) + r.val / 8) + _; omega),
    byteQ xq _ o (4 * (r.val % 8) + 2 * jp + 1) (by omega) ⟨32 * h + r.val / 2, by omega⟩ (by show 32 * h + r.val / 2 = 4 * (8 * (h % 2) + r.val / 8) + _; omega),
    byteH xh _ o (8 * (r.val % 8 / 2) + 4 * h + 2 * (r.val % 8 % 2) + jp) (by omega) ⟨r.val / 2, by omega⟩ (by show r.val / 2 = 4 * (r.val / 8) + _; omega),
    Cert.Bits.quad_toInt]
  unfold qz
  have e1 : (4 * (r.val % 8) + 2 * jp) % 8 = 2 * (2 * (r.val % 2) + jp) := by omega
  have e2 : (4 * (r.val % 8) + 2 * jp + 1) % 8 = 2 * (2 * (r.val % 2) + jp) + 1 := by omega
  have e3 : (8 * (r.val % 8 / 2) + 4 * h + 2 * (r.val % 8 % 2) + jp) % 8 = 4 * h + (2 * (r.val % 2) + jp) := by omega
  rw [e1, e2, e3]

/-! ## The scales' rows -/

/-- The even and the odd scale row of a loaded pair. -/
def lo (S : Vec Ideal S1x1x2x512 .bf16) : FVec Ideal S1x512 .bf16 := k0_pay138 (F := Ideal) S
def hi (S : Vec Ideal S1x1x2x512 .bf16) : FVec Ideal S1x512 .bf16 := k0_pay139 (F := Ideal) S

theorem lo_apply (S : Vec Ideal S1x1x2x512 .bf16) (o : Fin 512) : lo S (ix2 0 o) = S (ix4 0 0 0 o) := by
  unfold lo k0_pay138
  pointwise

theorem hi_apply (S : Vec Ideal S1x1x2x512 .bf16) (o : Fin 512) : hi S (ix2 0 o) = S (ix4 0 0 1 o) := by
  unfold hi k0_pay139
  pointwise

/-- Sixteen copies of a row. -/
def gcat (v : FVec Ideal S1x512 .bf16) : FVec Ideal S16x512 .bf16 := k0_pay173 (F := Ideal) v

theorem gcat_apply (v : FVec Ideal S1x512 .bf16) (r : Fin 16) (o : Fin 512) : gcat v (ix2 r o) = v (ix2 0 o) :=
  concatenate_ofFn_unit_apply (t := S16x512) (s₁ := S1x512) 0 (fun _ : Fin 16 => v)
    concatenates_S1x512_S1x512_S1x512_S1x512_S1x512_S1x512_S1x512_S1x512_S1x512_S1x512_S1x512_S1x512_S1x512_S1x512_S1x512_S1x512_S16x512_d0 rfl rfl (ix2 r o) r rfl (ix2 0 o)
    (fun b hb => by match b with | ⟨0, _⟩ => exact absurd rfl hb | ⟨1, _⟩ => rfl)

/-- The two rows alternating. -/
def gint (S : Vec Ideal S1x1x2x512 .bf16) : FVec Ideal S32x512 .bf16 :=
  interleaveRows S32x512 (gcat (lo S)) (gcat (hi S)) bitcasts_S32x512_w16_S16x512_w32

theorem gint_apply (S : Vec Ideal S1x1x2x512 .bf16) (r : Fin 32) (o : Fin 512) :
    gint S (ix2 r o) = S (ix4 0 0 ⟨r.val % 2, by omega⟩ o) := by
  unfold gint
  pointwise
  rw [gcat_apply, gcat_apply, lo_apply, hi_apply]
  rcases Nat.mod_two_eq_zero_or_one r.val with e | e
  · rw [if_pos e]; congr 2; exact Fin.ext e.symm
  · rw [if_neg (by omega)]; congr 2; exact Fin.ext e.symm

/-! ## The weights of a chunk -/

/-- The 32 rows of weights whose scales are row pair `w`. -/
def wp (xq : Vec Ideal S1x64x512 .i8) (xh : Vec Ideal S1x32x512 .i8) (S : Fin 8 → Vec Ideal S1x1x2x512 .bf16) (w : Fin 8) :
    FVec Ideal S32x512 .bf16 := fun j =>
  nibbles (cw (w.val / 4) (w.val / 2 % 2) (k0_pay136 xq) (k0_pay137 xh))
      (ix2 ⟨32 * (w.val % 2) + (j 0).val, by have := (j 0).isLt; change _ < 32 at this; omega⟩ (j 1)) * gint (S w) j

/-- All 256 rows of weights of a chunk. -/
def wt (xq : Vec Ideal S1x64x512 .i8) (xh : Vec Ideal S1x32x512 .i8) (S : Fin 8 → Vec Ideal S1x1x2x512 .bf16) :
    FVec Ideal S256x512 .bf16 :=
  concatenate S256x512 0 [⟨S32x512, wp xq xh S 0⟩, ⟨S32x512, wp xq xh S 1⟩, ⟨S32x512, wp xq xh S 2⟩, ⟨S32x512, wp xq xh S 3⟩,
    ⟨S32x512, wp xq xh S 4⟩, ⟨S32x512, wp xq xh S 5⟩, ⟨S32x512, wp xq xh S 6⟩, ⟨S32x512, wp xq xh S 7⟩]
    concatenates_S32x512_S32x512_S32x512_S32x512_S32x512_S32x512_S32x512_S32x512_S256x512_d0

/-- One weight: twice the 3-bit weight of row `ρ` times its scale. -/
def wv (xq : Vec Ideal S1x64x512 .i8) (xh : Vec Ideal S1x32x512 .i8) (S : Fin 8 → Vec Ideal S1x1x2x512 .bf16)
    (ρ : Fin 256) (o : Fin 512) : EReal :=
  (((2 * qz (xq (ix3 0 ⟨32 * (ρ.val / 128) + ρ.val % 64 / 2, by omega⟩ o)) (xh (ix3 0 ⟨ρ.val % 64 / 2, by omega⟩ o))
      (ρ.val / 128) (2 * (ρ.val % 2) + ρ.val / 64 % 2) : ℤ) : ℝ) : EReal) * S ⟨ρ.val / 32, by omega⟩ (ix4 0 0 ⟨ρ.val % 2, by omega⟩ o)

theorem wt_apply (xq : Vec Ideal S1x64x512 .i8) (xh : Vec Ideal S1x32x512 .i8) (S : Fin 8 → Vec Ideal S1x1x2x512 .bf16)
    (ρ : Fin 256) (o : Fin 512) : wt xq xh S (ix2 ρ o) = wv xq xh S ρ o := by
  refine (concatenate_ofFn_apply (t := S256x512) (s₁ := S32x512) 0 (wp xq xh S)
    concatenates_S32x512_S32x512_S32x512_S32x512_S32x512_S32x512_S32x512_S32x512_S256x512_d0 rfl 32 rfl (ix2 ρ o)
    ⟨ρ.val / 32, by omega⟩ rfl (ix2 ⟨ρ.val % 32, by omega⟩ o) rfl
    (fun b hb => by match b with | ⟨0, _⟩ => exact absurd rfl hb | ⟨1, _⟩ => rfl)).trans ?_
  unfold wp wv
  simp only [ix2_0, ix2_1]
  rw [nib_row _ _ _ _ (by omega) (by omega), gint_apply]
  have e1 : ρ.val / 32 / 4 = ρ.val / 128 := by omega
  have e2 : (32 * (ρ.val / 32 % 2) + ρ.val % 32) = ρ.val % 64 := by omega
  have e3 : ρ.val / 32 / 2 % 2 = ρ.val / 64 % 2 := by omega
  have e4 : ρ.val % 64 % 2 = ρ.val % 2 := by omega
  have e5 : ρ.val % 32 % 2 = ρ.val % 2 := by omega
  simp only [e1, e2, e3, e4, e5]

/-! ## The chunk's contribution -/

/-- What a trip of the contraction leaves of the accumulator, from the vectors it loads. -/
def yld (acc : FVec Ideal S128x256 .f32) (xd : Vec Ideal S128x512 .bf16) (xq : Vec Ideal S1x64x512 .i8) (xh : Vec Ideal S1x32x512 .i8)
    (S : Fin 8 → Vec Ideal S1x1x2x512 .bf16) : FVec Ideal S128x256 .f32 :=
  addf acc (matmul dot_S128x512_S256x512_S128x256_1_1_0_0_n_n (φ₁ := .bf16) none xd (wt xq xh S) (constant S128x256 .f32 0x00000000#32))

theorem yld_apply (acc : FVec Ideal S128x256 .f32) (xd : Vec Ideal S128x512 .bf16) (xq : Vec Ideal S1x64x512 .i8) (xh : Vec Ideal S1x32x512 .i8)
    (S : Fin 8 → Vec Ideal S1x1x2x512 .bf16) (s : Fin 128) (ρ : Fin 256) :
    yld acc xd xq xh S (ix2 s ρ) = acc (ix2 s ρ) + ∑ k : Fin 512, xd (ix2 s k) * wv xq xh S ρ k := by
  unfold yld
  pointwise
  simp only [wt_apply]

theorem slice0 (xq : Vec Ideal S1x64x512 .i8) (xh : Vec Ideal S1x32x512 .i8) (S : Fin 8 → Vec Ideal S1x1x2x512 .bf16) (w : Fin 8) (h : w.val % 2 = 0) :
    mulf (extractStridedSlice S32x512 ![0, 0] (nibbles (cw (w.val / 4) (w.val / 2 % 2) (k0_pay136 xq) (k0_pay137 xh))) slices_S64x512_o0_0_S32x512) (gint (S w))
      = wp xq xh S w := by
  funext j
  idx_vars j
  unfold wp
  pointwise
  simp only [h, ix2_0, ix2_1, Nat.mul_zero, Nat.zero_add]
  first | done | rfl

theorem slice1 (xq : Vec Ideal S1x64x512 .i8) (xh : Vec Ideal S1x32x512 .i8) (S : Fin 8 → Vec Ideal S1x1x2x512 .bf16) (w : Fin 8) (h : w.val % 2 = 1) :
    mulf (extractStridedSlice S32x512 ![32, 0] (nibbles (cw (w.val / 4) (w.val / 2 % 2) (k0_pay136 xq) (k0_pay137 xh))) slices_S64x512_o32_0_S32x512) (gint (S w))
      = wp xq xh S w := by
  funext j
  idx_vars j
  unfold wp
  pointwise
  simp only [h, ix2_0, ix2_1, Nat.mul_one]
  first | done | rfl

theorem pay176_eq (acc : FVec Ideal S128x256 .f32) (xd : Vec Ideal S128x512 .bf16) (xq : Vec Ideal S1x64x512 .i8) (xh : Vec Ideal S1x32x512 .i8)
    (S : Fin 8 → Vec Ideal S1x1x2x512 .bf16) :
    k0_pay176 (F := Ideal) acc
      (k0_pay161 (k0_pay138 (S 0)) (k0_pay139 (S 0)) (k0_pay159 (k0_pay136 xq) (k0_pay137 xh)))
      (k0_pay162 (k0_pay140 (S 1)) (k0_pay141 (S 1)) (k0_pay159 (k0_pay136 xq) (k0_pay137 xh)))
      (k0_pay164 (k0_pay142 (S 2)) (k0_pay143 (S 2)) (k0_pay158 (k0_pay136 xq) (k0_pay137 xh)))
      (k0_pay165 (k0_pay144 (S 3)) (k0_pay145 (S 3)) (k0_pay158 (k0_pay136 xq) (k0_pay137 xh)))
      (k0_pay169 (k0_pay146 (S 4)) (k0_pay147 (S 4)) (k0_pay166 (k0_pay155 (k0_pay136 xq)) (k0_pay156 (k0_pay137 xh))) k0_pay167)
      (k0_pay170 (k0_pay148 (S 5)) (k0_pay149 (S 5)) (k0_pay166 (k0_pay155 (k0_pay136 xq)) (k0_pay156 (k0_pay137 xh))) k0_pay167)
      (k0_pay171 (k0_pay155 (k0_pay136 xq)) (k0_pay156 (k0_pay137 xh)))
      (k0_pay172 (k0_pay150 (S 6)) (k0_pay151 (S 6)) (k0_pay155 (k0_pay136 xq)) (k0_pay156 (k0_pay137 xh)))
      (k0_pay173 (k0_pay152 (S 7))) (k0_pay174 (k0_pay153 (S 7))) xd = yld acc xd xq xh S := by
  have h0 := slice0 xq xh S 0 rfl
  have h1 := slice1 xq xh S 1 rfl
  have h2 := slice0 xq xh S 2 rfl
  have h3 := slice1 xq xh S 3 rfl
  have h4 := slice0 xq xh S 4 rfl
  have h5 := slice1 xq xh S 5 rfl
  have h6 := slice0 xq xh S 6 rfl
  have h7 := slice1 xq xh S 7 rfl
  rw [cw00, cw01]
  have e0 : k0_pay161 (F := Ideal) (k0_pay138 (S 0)) (k0_pay139 (S 0)) (shapeCast S8x1x512 (cw 0 0 (k0_pay136 xq) (k0_pay137 xh)) shapeCasts_S8x512_S8x1x512) = wp xq xh S 0 := h0
  have e1 : k0_pay162 (F := Ideal) (k0_pay140 (S 1)) (k0_pay141 (S 1)) (shapeCast S8x1x512 (cw 0 0 (k0_pay136 xq) (k0_pay137 xh)) shapeCasts_S8x512_S8x1x512) = wp xq xh S 1 := h1
  have e2 : k0_pay164 (F := Ideal) (k0_pay142 (S 2)) (k0_pay143 (S 2)) (cw 0 1 (k0_pay136 xq) (k0_pay137 xh)) = wp xq xh S 2 := h2
  have e3 : k0_pay165 (F := Ideal) (k0_pay144 (S 3)) (k0_pay145 (S 3)) (cw 0 1 (k0_pay136 xq) (k0_pay137 xh)) = wp xq xh S 3 := h3
  change mulf (extractStridedSlice S32x512 ![0, 0] (nibbles (cw 1 0 (k0_pay136 xq) (k0_pay137 xh))) slices_S64x512_o0_0_S32x512) (gint (S 4)) = _ at h4
  change mulf (extractStridedSlice S32x512 ![32, 0] (nibbles (cw 1 0 (k0_pay136 xq) (k0_pay137 xh))) slices_S64x512_o32_0_S32x512) (gint (S 5)) = _ at h5
  change mulf (extractStridedSlice S32x512 ![0, 0] (nibbles (cw 1 1 (k0_pay136 xq) (k0_pay137 xh))) slices_S64x512_o0_0_S32x512) (gint (S 6)) = _ at h6
  change mulf (extractStridedSlice S32x512 ![32, 0] (nibbles (cw 1 1 (k0_pay136 xq) (k0_pay137 xh))) slices_S64x512_o32_0_S32x512) (gint (S 7)) = _ at h7
  rw [← cw10] at h4 h5
  rw [← cw11, ← pay171_eq] at h6 h7
  have e4 : k0_pay169 (F := Ideal) (k0_pay146 (S 4)) (k0_pay147 (S 4)) (k0_pay166 (k0_pay155 (k0_pay136 xq)) (k0_pay156 (k0_pay137 xh))) k0_pay167 = wp xq xh S 4 := h4
  have e5 : k0_pay170 (F := Ideal) (k0_pay148 (S 5)) (k0_pay149 (S 5)) (k0_pay166 (k0_pay155 (k0_pay136 xq)) (k0_pay156 (k0_pay137 xh))) k0_pay167 = wp xq xh S 5 := h5
  have e6 : k0_pay172 (F := Ideal) (k0_pay150 (S 6)) (k0_pay151 (S 6)) (k0_pay155 (k0_pay136 xq)) (k0_pay156 (k0_pay137 xh)) = wp xq xh S 6 := h6
  rw [e0, e1, e2, e3, e4, e5, e6]
  unfold k0_pay176 yld wt
  dsimp only
  rw [← h7]
  congr 2
  first | done | exact shapeCast_self _ _

end Cert.KernelIdeal.Value

end
-- ==== Proof.Value.Trip.lean ====
/- One trip of the contraction: what it leaves of the accumulator, from the buffers' contents. -/
module

public import proofs.«01_k».proof.Proof.Value.Nib

@[expose] public section

set_option maxRecDepth 16384
set_option maxHeartbeats 2000000

noncomputable section

namespace Cert.KernelIdeal.Value

open Cert.KernelIdeal Cert.KernelIdeal.Gen
open Idealize.ShloMosaic Idealize.ShloMosaic.TcCoe Idealize.ShloMosaic.Tactic

/-- The eight scale row pairs a trip loads. -/
def ldS (i : grid0.Coords) (arg7 : Memref sig .tc .vmem S8x108x2x5120 .bf16) (X : BufTy.Contents (Elt Ideal) arg7.view.ty)
    (b : Fin k0_t2_loop.trips) (k : Fin k0_t3_loop.trips) : Fin 8 → Vec Ideal S1x1x2x512 .bf16 :=
  ![View.readAt (Elt Ideal) arg7.view (Rect.unit (s := S8x108x2x5120) (k0_off87 i b k) S1x1x2x512.size (k0_off87_inb i b k)).toLoadRect X,
    View.readAt (Elt Ideal) arg7.view (Rect.unit (s := S8x108x2x5120) (k0_off88 i b k) S1x1x2x512.size (k0_off88_inb i b k)).toLoadRect X,
    View.readAt (Elt Ideal) arg7.view (Rect.unit (s := S8x108x2x5120) (k0_off89 i b k) S1x1x2x512.size (k0_off89_inb i b k)).toLoadRect X,
    View.readAt (Elt Ideal) arg7.view (Rect.unit (s := S8x108x2x5120) (k0_off90 i b k) S1x1x2x512.size (k0_off90_inb i b k)).toLoadRect X,
    View.readAt (Elt Ideal) arg7.view (Rect.unit (s := S8x108x2x5120) (k0_off91 i b k) S1x1x2x512.size (k0_off91_inb i b k)).toLoadRect X,
    View.readAt (Elt Ideal) arg7.view (Rect.unit (s := S8x108x2x5120) (k0_off92 i b k) S1x1x2x512.size (k0_off92_inb i b k)).toLoadRect X,
    View.readAt (Elt Ideal) arg7.view (Rect.unit (s := S8x108x2x5120) (k0_off93 i b k) S1x1x2x512.size (k0_off93_inb i b k)).toLoadRect X,
    View.readAt (Elt Ideal) arg7.view (Rect.unit (s := S8x108x2x5120) (k0_off94 i b k) S1x1x2x512.size (k0_off94_inb i b k)).toLoadRect X]

theorem trip_eq (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole)
    (arg0 a b : BitVec 32) (k2 : Fin k0_t2_loop.trips) (arg8 v5 : BitVec 32)
    (X1 : BufTy.Contents (Elt Ideal) arg1.view.ty) (X2 : BufTy.Contents (Elt Ideal) arg2.view.ty) (X3 : BufTy.Contents (Elt Ideal) arg3.view.ty) (X7 : BufTy.Contents (Elt Ideal) arg7.view.ty)
    (k : Fin k0_t3_loop.trips) (acc : FVec Ideal S128x256 .f32) :
    (trip_k0_t3 (F := Ideal) 𝒱 c bd i arg1 harg1 arg2 harg2 arg3 harg3 arg4 harg4 arg5 harg5 arg6 harg6 arg7 harg7 arg0 a b k2 arg8 v5 X1 X2 X3 X7 k).1 acc
      = yld acc (View.readAt (Elt Ideal) arg1.view (Rect.unit (s := S128x5120) (k0_off95 k) S128x512.size (k0_off95_inb k)).toLoadRect X1)
          (View.readAt (Elt Ideal) arg3.view (Rect.unit (s := S4x64x5120) (k0_off85 k2 k) S1x64x512.size (k0_off85_inb k2 k)).toLoadRect X3)
          (View.readAt (Elt Ideal) arg2.view (Rect.unit (s := S4x32x5120) (k0_off86 k2 k) S1x32x512.size (k0_off86_inb k2 k)).toLoadRect X2)
          (ldS i arg7 X7 k2 k) := by
  rw [← pay176_eq]
  unfold trip_k0_t3
  rfl

end Cert.KernelIdeal.Value

end
-- ==== Proof.Value.Acc.lean ====
/- The accumulator a block's contraction ends with, at an index: a sum over the whole contracted axis. -/
module

public import proofs.«01_k».proof.Proof.Value.Trip

@[expose] public section

set_option maxRecDepth 16384
set_option maxHeartbeats 2000000

noncomputable section

namespace Cert.KernelIdeal.Value

open Cert.KernelIdeal Cert.KernelIdeal.Gen
open Idealize.ShloMosaic Idealize.ShloMosaic.TcCoe Idealize.ShloMosaic.Tactic

/-! ## The offsets a trip computes -/

theorem trips2 : k0_t2_loop.trips = 4 := by decide +kernel
theorem trips3 : k0_t3_loop.trips = 10 := by decide +kernel
theorem hb (b : Fin k0_t2_loop.trips) : b.val < 4 := trips2 ▸ b.isLt
theorem hk3 (k : Fin k0_t3_loop.trips) : k.val < 10 := trips3 ▸ k.isLt

theorem off95_eq (k : Fin k0_t3_loop.trips) : k0_off95 k = ![0, 512 * k.val] := by
  revert k; decide +kernel
theorem off85_eq (b : Fin k0_t2_loop.trips) (k : Fin k0_t3_loop.trips) : k0_off85 b k = ![b.val, 0, 512 * k.val] := by
  revert b k; decide +kernel
theorem off86_eq (b : Fin k0_t2_loop.trips) (k : Fin k0_t3_loop.trips) : k0_off86 b k = ![b.val, 0, 512 * k.val] := by
  revert b k; decide +kernel

theorem word_b : ∀ (n : Fin 27) (b : Fin 4),
    (Scalar.indexCast (Scalar.addi (Scalar.muli (BitVec.ofNat 32 n.val) 4#32) (Scf.iv 0#32 1#32 b.val)) : BitVec 32).toNat = 4 * n.val + b.val := by
  decide +kernel
theorem word_k : ∀ k : Fin 10, (Scalar.indexCast (Scalar.muli (Scf.iv 0#32 1#32 k.val) 512#32) : BitVec 32).toNat = 512 * k.val := by
  decide +kernel

/-- The offset of scale row pair `w` at a trip. -/
theorem offS (i : grid0.Coords) (b : Fin k0_t2_loop.trips) (k : Fin k0_t3_loop.trips) :
    k0_off87 i b k = ![0, 4 * (i 0).val + b.val, 0, 512 * k.val] ∧ k0_off88 i b k = ![1, 4 * (i 0).val + b.val, 0, 512 * k.val]
    ∧ k0_off89 i b k = ![2, 4 * (i 0).val + b.val, 0, 512 * k.val] ∧ k0_off90 i b k = ![3, 4 * (i 0).val + b.val, 0, 512 * k.val]
    ∧ k0_off91 i b k = ![4, 4 * (i 0).val + b.val, 0, 512 * k.val] ∧ k0_off92 i b k = ![5, 4 * (i 0).val + b.val, 0, 512 * k.val]
    ∧ k0_off93 i b k = ![6, 4 * (i 0).val + b.val, 0, 512 * k.val] ∧ k0_off94 i b k = ![7, 4 * (i 0).val + b.val, 0, 512 * k.val] := by
  have h1 := word_b (i 0) ⟨b.val, hb b⟩
  have h2 := word_k ⟨k.val, hk3 k⟩
  dsimp only at h1 h2
  unfold k0_off87 k0_off88 k0_off89 k0_off90 k0_off91 k0_off92 k0_off93 k0_off94
  dsimp only
  rw [h1, h2]
  exact ⟨rfl, rfl, rfl, rfl, rfl, rfl, rfl, rfl⟩

/-! ## The loads at an index -/

theorem ld1 (arg : Memref sig .tc .vmem S128x5120 .bf16) (h : arg.IsWhole) (x : Vec Ideal S128x5120 .bf16) (k : Fin k0_t3_loop.trips)
    (s : Fin 128) (o : Fin 512) :
    View.readAt (Elt Ideal) arg.view (Rect.unit (s := S128x5120) (k0_off95 k) S128x512.size (k0_off95_inb k)).toLoadRect (h.unread x) (ix2 s o)
      = x (ix2 s ⟨512 * k.val + o.val, by have := hk3 k; omega⟩) := by
  rw [View.readAt_eq_ld, Memref.IsWhole.read_unread]
  generalize k0_off95_inb k = inb
  revert inb
  rw [off95_eq]
  intro inb
  pointwise

theorem ld3 (arg : Memref sig .tc .vmem S4x64x5120 .i8) (h : arg.IsWhole) (x : Vec Ideal S4x64x5120 .i8) (b : Fin k0_t2_loop.trips) (k : Fin k0_t3_loop.trips)
    (p : Fin 64) (o : Fin 512) :
    View.readAt (Elt Ideal) arg.view (Rect.unit (s := S4x64x5120) (k0_off85 b k) S1x64x512.size (k0_off85_inb b k)).toLoadRect (h.unread x) (ix3 0 p o)
      = x (ix3 ⟨b.val, hb b⟩ p ⟨512 * k.val + o.val, by have := hk3 k; omega⟩) := by
  rw [View.readAt_eq_ld, Memref.IsWhole.read_unread]
  generalize k0_off85_inb b k = inb
  revert inb
  rw [off85_eq]
  intro inb
  pointwise

theorem ld2 (arg : Memref sig .tc .vmem S4x32x5120 .i8) (h : arg.IsWhole) (x : Vec Ideal S4x32x5120 .i8) (b : Fin k0_t2_loop.trips) (k : Fin k0_t3_loop.trips)
    (p : Fin 32) (o : Fin 512) :
    View.readAt (Elt Ideal) arg.view (Rect.unit (s := S4x32x5120) (k0_off86 b k) S1x32x512.size (k0_off86_inb b k)).toLoadRect (h.unread x) (ix3 0 p o)
      = x (ix3 ⟨b.val, hb b⟩ p ⟨512 * k.val + o.val, by have := hk3 k; omega⟩) := by
  rw [View.readAt_eq_ld, Memref.IsWhole.read_unread]
  generalize k0_off86_inb b k = inb
  revert inb
  rw [off86_eq]
  intro inb
  pointwise

theorem ld7 (arg : Memref sig .tc .vmem S8x108x2x5120 .bf16) (h : arg.IsWhole) (x : Vec Ideal S8x108x2x5120 .bf16) (off : Fin 4 → ℕ)
    (inb : ∀ a, off a + S1x1x2x512.size a ≤ S8x108x2x5120.size a) (w b k : ℕ) (hw : w < 8) (hb : b < 108) (hk : k < 10)
    (hoff : off = ![w, b, 0, 512 * k]) (p : Fin 2) (o : Fin 512) :
    View.readAt (Elt Ideal) arg.view (Rect.unit (s := S8x108x2x5120) off S1x1x2x512.size inb).toLoadRect (h.unread x) (ix4 0 0 p o)
      = x (ix4 ⟨w, hw⟩ ⟨b, hb⟩ p ⟨512 * k + o.val, by omega⟩) := by
  rw [View.readAt_eq_ld, Memref.IsWhole.read_unread]
  subst hoff
  pointwise

theorem hi0 (i : grid0.Coords) : (i 0).val < 27 := (i 0).isLt

theorem ldS_apply (i : grid0.Coords) (arg7 : Memref sig .tc .vmem S8x108x2x5120 .bf16) (h : arg7.IsWhole) (x : Vec Ideal S8x108x2x5120 .bf16)
    (b : Fin k0_t2_loop.trips) (k : Fin k0_t3_loop.trips) (w : Fin 8) (p : Fin 2) (o : Fin 512) :
    ldS i arg7 (h.unread x) b k w (ix4 0 0 p o)
      = x (ix4 w ⟨4 * (i 0).val + b.val, by have := hi0 i; have := hb b; omega⟩ p ⟨512 * k.val + o.val, by have := hk3 k; omega⟩) := by
  obtain ⟨h0, h1, h2, h3, h4, h5, h6, h7⟩ := offS i b k
  have e : 4 * (i 0).val + b.val < 108 := by have := hi0 i; have := hb b; omega
  match w with
  | ⟨0, _⟩ => exact ld7 arg7 h x _ _ 0 _ _ (by omega) e (hk3 k) h0 p o
  | ⟨1, _⟩ => exact ld7 arg7 h x _ _ 1 _ _ (by omega) e (hk3 k) h1 p o
  | ⟨2, _⟩ => exact ld7 arg7 h x _ _ 2 _ _ (by omega) e (hk3 k) h2 p o
  | ⟨3, _⟩ => exact ld7 arg7 h x _ _ 3 _ _ (by omega) e (hk3 k) h3 p o
  | ⟨4, _⟩ => exact ld7 arg7 h x _ _ 4 _ _ (by omega) e (hk3 k) h4 p o
  | ⟨5, _⟩ => exact ld7 arg7 h x _ _ 5 _ _ (by omega) e (hk3 k) h5 p o
  | ⟨6, _⟩ => exact ld7 arg7 h x _ _ 6 _ _ (by omega) e (hk3 k) h6 p o
  | ⟨7, _⟩ => exact ld7 arg7 h x _ _ 7 _ _ (by omega) e (hk3 k) h7 p o

/-! ## The accumulator -/

/-- The weight of row `ρ` of block `b` of grid point `n`, at contraction index `o`, from the operand blocks. -/
def kw (x1 : Vec Ideal S4x32x5120 .i8) (x2 : Vec Ideal S4x64x5120 .i8) (xs : Vec Ideal S8x108x2x5120 .bf16)
    (n : Fin 27) (b : Fin 4) (ρ : Fin 256) (o : Fin 5120) : EReal :=
  (((2 * qz (x2 (ix3 b ⟨32 * (ρ.val / 128) + ρ.val % 64 / 2, by omega⟩ o)) (x1 (ix3 b ⟨ρ.val % 64 / 2, by omega⟩ o))
      (ρ.val / 128) (2 * (ρ.val % 2) + ρ.val / 64 % 2) : ℤ) : ℝ) : EReal)
    * xs (ix4 ⟨ρ.val / 32, by omega⟩ ⟨4 * n.val + b.val, by omega⟩ ⟨ρ.val % 2, by omega⟩ o)

/-- A product of the contraction, zero past its end. -/
def term (x0 : Vec Ideal S128x5120 .bf16) (x1 : Vec Ideal S4x32x5120 .i8) (x2 : Vec Ideal S4x64x5120 .i8) (xs : Vec Ideal S8x108x2x5120 .bf16)
    (n : Fin 27) (b : Fin 4) (s : Fin 128) (ρ : Fin 256) (o : ℕ) : EReal :=
  if h : o < 5120 then x0 (ix2 s ⟨o, h⟩) * kw x1 x2 xs n b ρ ⟨o, h⟩ else 0

theorem acc_apply (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole)
    (arg0 a' b' : BitVec 32) (b : Fin k0_t2_loop.trips) (arg8 v5 : BitVec 32)
    (x0 : Vec Ideal S128x5120 .bf16) (x1 : Vec Ideal S4x32x5120 .i8) (x2 : Vec Ideal S4x64x5120 .i8) (xs : Vec Ideal S8x108x2x5120 .bf16)
    (s : Fin 128) (ρ : Fin 256) (k : ℕ) (hk : k ≤ k0_t3_loop.trips) :
    st_k0_t3 (F := Ideal) 𝒱 c bd i arg1 harg1 arg2 harg2 arg3 harg3 arg4 harg4 arg5 harg5 arg6 harg6 arg7 harg7 arg0 a' b' b arg8 v5
        (harg1.unread x0) (harg2.unread x1) (harg3.unread x2) (harg7.unread xs) (k0_pay175 (F := Ideal)) k (ix2 s ρ)
      = ∑ o ∈ Finset.range (512 * k), term x0 x1 x2 xs (i 0) ⟨b.val, hb b⟩ s ρ o := by
  induction k with
  | zero =>
    rw [Nat.mul_zero, Finset.range_zero, Finset.sum_empty, st_k0_t3_zero]
    unfold k0_pay175
    pointwise
  | succ k ih =>
    have hk' : k < k0_t3_loop.trips := hk
    have hk10 : k < 10 := trips3 ▸ hk'
    have e := st_k0_t3_succ (F := Ideal) 𝒱 c bd i arg1 harg1 arg2 harg2 arg3 harg3 arg4 harg4 arg5 harg5 arg6 harg6 arg7 harg7 arg0 a' b' b arg8 v5
        (harg1.unread x0) (harg2.unread x1) (harg3.unread x2) (harg7.unread xs) (k0_pay175 (F := Ideal)) ⟨k, hk'⟩
    rw [e]
    unfold tripR_k0_t3
    rw [trip_eq, yld_apply]
    rw [ih (by omega), Nat.mul_succ, Finset.sum_range_add]
    congr 1
    rw [Finset.sum_range]
    refine Finset.sum_congr rfl fun o _ => ?_
    have ho : 512 * k + o.val < 5120 := by omega
    rw [ld1]
    unfold term wv kw
    rw [dif_pos ho]
    rw [ld3, ld2, ldS_apply]

end Cert.KernelIdeal.Value

end
-- ==== Proof.Value.Block.lean ====
/- The output block of a grid point at an index. -/
module

public import proofs.«01_k».proof.Proof.Value.Acc
public import proofs.«01_k».proof.Proof.KernelIdeal.Runs
public import Idealize.ShloMosaic.Lib.Pipeline.ValueKit

@[expose] public section

set_option maxRecDepth 16384
set_option maxHeartbeats 2000000

noncomputable section

namespace Cert.KernelIdeal.Value

open Cert.KernelIdeal Cert.KernelIdeal.Gen
open Idealize.ShloMosaic Idealize.ShloMosaic.TcCoe Idealize.ShloMosaic.Tactic

/-! ## The lane permutation -/

/-- The accumulator column, in its half, that lane `l` of the output takes. -/
def src (l : ℕ) : ℕ := 64 * (l / 32 % 2) + 2 * (l % 32) + l / 64

theorem src_lt (l : ℕ) (h : l < 128) : src l < 128 := by unfold src; omega

/-- The lane's word, as the body computes it. -/
def srcW (l : BitVec 32) : BitVec 32 :=
  IntOp.ori (IntOp.ori (IntOp.shli .vector (IntOp.andi (IntOp.shrsi .vector l 5#32) 1#32) 6#32)
    (IntOp.shli .vector (IntOp.andi l 31#32) 1#32)) (IntOp.shrsi .vector l 6#32)

theorem srcW_toNat : ∀ l : Fin 128, ((srcW (BitVec.ofNat 32 l.val)).toNat % 128 = src l.val)
    ∧ IntOp.cmpi .slt (srcW (BitVec.ofNat 32 l.val)) 0#32 = 0#1 := by
  decide +kernel

theorem pay177_apply (s l : Fin 128) : k0_pay177 (ix2 s l) = srcW (BitVec.ofNat 32 l.val) := by
  unfold k0_pay177
  dsimp only
  pointwise
  rfl

theorem pay178_apply (v : FVec Ideal S128x256 .f32) (s l : Fin 128) :
    k0_pay178 (F := Ideal) v (ix2 s l) = v (ix2 s ⟨src l.val, lt_of_lt_of_le (src_lt l.val l.isLt) (by omega)⟩) := by
  unfold k0_pay178
  pointwise
  have e : (Scalar.select (IntOp.cmpi CmpIPredicate.slt (k0_pay177 (ix2 s l)) 0#32) (IntOp.addi (k0_pay177 (ix2 s l)) 128#32)
      (k0_pay177 (ix2 s l))).toNat % 128 = src l.val := by
    rw [pay177_apply, (srcW_toNat l).2]
    exact (srcW_toNat l).1
  exact congrArg v (congrArg (ix2 s) (Fin.ext e))

theorem pay2_apply (v : FVec Ideal S128x256 .f32) (s l : Fin 128) :
    k0_pay2 (F := Ideal) k0_pay177 (k0_pay179 v) k0_pay180 k0_pay181 (ix2 s l)
      = v (ix2 s ⟨128 + src l.val, by have := src_lt l.val l.isLt; omega⟩) := by
  unfold k0_pay2 k0_pay179 k0_pay180 k0_pay181
  dsimp only
  pointwise
  have e : (Scalar.select (IntOp.cmpi CmpIPredicate.slt (k0_pay177 (ix2 s l)) 0#32) (IntOp.addi (k0_pay177 (ix2 s l)) 128#32)
      (k0_pay177 (ix2 s l))).toNat % 128 = src l.val := by
    rw [pay177_apply, (srcW_toNat l).2]
    exact (srcW_toNat l).1
  exact congrArg v (congrArg (ix2 s) (Fin.ext (congrArg (128 + ·) e)))

/-! ## The block -/

/-- The output block of grid point `n` at a row and a column. -/
def blk (x0 : Vec Ideal S128x5120 .bf16) (x1 : Vec Ideal S4x32x5120 .i8) (x2 : Vec Ideal S4x64x5120 .i8) (xs : Vec Ideal S8x108x2x5120 .bf16)
    (n : Fin 27) (s : Fin 128) (col : Fin 1024) : EReal :=
  ∑ o ∈ Finset.range 5120, term x0 x1 x2 xs n ⟨col.val / 256, by omega⟩ s
    ⟨128 * (col.val / 128 % 2) + src (col.val % 128), by have := src_lt (col.val % 128) (by omega); omega⟩ o

theorem off96_eq (b : Fin k0_t2_loop.trips) : k0_off96 b 0#32 = ![0, 256 * b.val] ∧ k0_off96 b 128#32 = ![0, 256 * b.val + 128] := by
  revert b; decide +kernel

theorem blk_piece (x0 : Vec Ideal S128x5120 .bf16) (x1 : Vec Ideal S4x32x5120 .i8) (x2 : Vec Ideal S4x64x5120 .i8) (xs : Vec Ideal S8x108x2x5120 .bf16)
    (n : Fin 27) (b : ℕ) (hb : b < 4) (h : ℕ) (hh : h < 2) (off : Fin 2 → ℕ) (inb : ∀ a, off a + S128x128.size a ≤ S128x1024.size a)
    (hoff : off = ![0, 256 * b + 128 * h]) (w : Vec Ideal S128x128 .bf16)
    (hw : ∀ s l : Fin 128, w (ix2 s l) = ∑ o ∈ Finset.range 5120, term x0 x1 x2 xs n ⟨b, hb⟩ s
      ⟨128 * h + src l.val, by have := src_lt l.val l.isLt; omega⟩ o)
    (x : (Rect.unit (s := S128x1024) off S128x128.size inb).shape.Idx) :
    w x = blk x0 x1 x2 xs n ((Rect.unit (s := S128x1024) off S128x128.size inb).emb x 0) ((Rect.unit (s := S128x1024) off S128x128.size inb).emb x 1) := by
  subst hoff
  have e0 : ((Rect.unit (s := S128x1024) ![0, 256 * b + 128 * h] S128x128.size inb).emb x 0).val = 0 + (x 0).val := Rect.idx_unit_val _ _ inb x 0
  have e1 : ((Rect.unit (s := S128x1024) ![0, 256 * b + 128 * h] S128x128.size inb).emb x 1).val = 256 * b + 128 * h + (x 1).val := Rect.idx_unit_val _ _ inb x 1
  have hx1 : (x 1).val < 128 := (x 1).isLt
  refine (congrArg w (eq_ix2 (n0 := 128) (n1 := 128) x)).trans ((hw (x 0) (x 1)).trans ?_)
  have key : ∀ (a c : Fin 128) (a' : Fin 128) (c' : Fin 1024), a'.val = 0 + a.val → c'.val = 256 * b + 128 * h + c.val →
      ∑ o ∈ Finset.range 5120, term x0 x1 x2 xs n ⟨b, hb⟩ a ⟨128 * h + src c.val, by have := src_lt c.val c.isLt; omega⟩ o
        = blk x0 x1 x2 xs n a' c' := by
    intro a c a' c' ea ec
    have hc := c.isLt
    have a0 : b = c'.val / 256 := by omega
    have a1 : h = c'.val / 128 % 2 := by omega
    have a2 : c.val = c'.val % 128 := by omega
    have a3 : a = a' := Fin.ext (by omega)
    unfold blk
    subst a3
    refine Finset.sum_congr rfl fun o _ => ?_
    congr 1
    · exact Fin.ext a0
    · apply Fin.ext
      show 128 * h + src c.val = 128 * (c'.val / 128 % 2) + src (c'.val % 128)
      rw [← a1, ← a2]
  exact key (x 0) (x 1) _ _ e0 e1

theorem pb_pieces (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole)
    (x0 : Vec Ideal S128x5120 .bf16) (x1 : Vec Ideal S4x32x5120 .i8) (x2 : Vec Ideal S4x64x5120 .i8) (xs : Vec Ideal S8x108x2x5120 .bf16) (k : ℕ) (hk : k ≤ k0_t2_loop.trips) :
    ∀ p ∈ Body.pb (F := Ideal) Variants.none c none i arg1 harg1 arg2 harg2 arg3 harg3 arg4 harg4 arg5 harg5 arg6 harg6 arg7 harg7 (BitVec.ofNat 32 (i 0).val) (harg1.unread x0) (harg2.unread x1) (harg3.unread x2) (harg7.unread xs) k,
      ∀ x : p.1.shape.Idx, p.2 x = blk x0 x1 x2 xs (i 0) (p.1.emb x 0) (p.1.emb x 1) := by
  induction k with
  | zero => intro p hp; exact absurd hp List.not_mem_nil
  | succ k ih =>
    have hk' : k < k0_t2_loop.trips := hk
    intro p hp x
    have e := Body.pb_succ (F := Ideal) Variants.none c none i arg1 harg1 arg2 harg2 arg3 harg3 arg4 harg4 arg5 harg5 arg6 harg6 arg7 harg7 (BitVec.ofNat 32 (i 0).val) (harg1.unread x0) (harg2.unread x1) (harg3.unread x2) (harg7.unread xs) ⟨k, hk'⟩
    rw [e, List.mem_append] at hp
    rcases hp with hp | hp
    · have hacc : ∀ (s : Fin 128) (ρ : Fin 256), Body.acc (F := Ideal) Variants.none c none i arg1 harg1 arg2 harg2 arg3 harg3 arg4 harg4 arg5 harg5 arg6 harg6 arg7 harg7 (BitVec.ofNat 32 (i 0).val) (harg1.unread x0) (harg2.unread x1) (harg3.unread x2) (harg7.unread xs) ⟨k, hk'⟩ (ix2 s ρ)
          = ∑ o ∈ Finset.range 5120, term x0 x1 x2 xs (i 0) ⟨k, hb ⟨k, hk'⟩⟩ s ρ o := by
        intro s ρ
        unfold Body.acc
        rw [acc_apply (hk := le_refl _), trips3]
      unfold Body.tripL at hp
      rcases List.mem_cons.mp hp with rfl | hp
      · exact blk_piece x0 x1 x2 xs (i 0) k (hb ⟨k, hk'⟩) 1 (by omega) (k0_off96 ⟨k, hk'⟩ 128#32) (k0_off96_inb ⟨k, hk'⟩ 1) (off96_eq ⟨k, hk'⟩).2 _ (fun s l => (pay2_apply _ s l).trans (hacc s _)) x
      · rcases List.mem_cons.mp hp with rfl | hp
        · exact blk_piece x0 x1 x2 xs (i 0) k (hb ⟨k, hk'⟩) 0 (by omega) (k0_off96 ⟨k, hk'⟩ 0#32) (k0_off96_inb ⟨k, hk'⟩ 0) (off96_eq ⟨k, hk'⟩).1 _ (fun s l => (pay178_apply _ s l).trans ((hacc s _).trans (by simp only [Nat.mul_zero, Nat.zero_add]))) x
        · exact absurd hp List.not_mem_nil
    · exact ih (by omega) p hp x

theorem outB_apply (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole)
    (x0 : Vec Ideal S128x5120 .bf16) (x1 : Vec Ideal S4x32x5120 .i8) (x2 : Vec Ideal S4x64x5120 .i8) (xs : Vec Ideal S8x108x2x5120 .bf16) (s : Fin 128) (col : Fin 1024) :
    Body.outB (F := Ideal) c i arg1 harg1 arg2 harg2 arg3 harg3 arg4 harg4 arg5 harg5 arg6 harg6 arg7 harg7 x0 x1 x2 xs (ix2 s col) = blk x0 x1 x2 xs (i 0) s col := by
  unfold Body.outB
  rw [View.read_writes_eq_canon _ _ _ (Body.outL_cover c i arg1 harg1 arg2 harg2 arg3 harg3 arg4 harg4 arg5 harg5 arg6 harg6 arg7 harg7 x0 x1 x2 xs)]
  exact View.canon_apply_of_pieces (fun y => blk x0 x1 x2 xs (i 0) (y 0) (y 1)) _
    (pb_pieces c i arg1 harg1 arg2 harg2 arg3 harg3 arg4 harg4 arg5 harg5 arg6 harg6 arg7 harg7 x0 x1 x2 xs _ (le_refl _)) (ix2 s col) (Body.outL_cover c i arg1 harg1 arg2 harg2 arg3 harg3 arg4 harg4 arg5 harg5 arg6 harg6 arg7 harg7 x0 x1 x2 xs (ix2 s col))

end Cert.KernelIdeal.Value

end
-- ==== Proof.Value.Scratch.lean ====
/- The scale loop's pieces in one vocabulary, and the scale scratch at an index. -/
module

public import proofs.«01_k».proof.Proof.Value.Block

@[expose] public section

set_option maxRecDepth 16384
set_option maxHeartbeats 2000000

noncomputable section

namespace Cert.KernelIdeal.Value

open Cert.KernelIdeal Cert.KernelIdeal.Gen
open Idealize.ShloMosaic Idealize.ShloMosaic.TcCoe Idealize.ShloMosaic.Tactic

/-- The constant one half. -/
def hf : EReal := Scalar.ofBits (F := Ideal) .f32 0x3F000000#32

/-- The group scale from its low and high bytes, the low one shifted by `a`, the high one by `b`. -/
def scq (l h : BitVec 8) (a b : BitVec 32) : BitVec 32 :=
  IntOp.subi (IntOp.ori (IntOp.andi (IntOp.shrsi .vector (l.setWidth 32) a) 15#32)
    (IntOp.shli .vector (IntOp.andi (IntOp.shrsi .vector (h.setWidth 32) b) 3#32) 4#32)) 32#32

/-- The scales of 32 blocks, as the loop computes them: half the block scale times the group scale. -/
def gv32 (L H : Vec Ideal S1x32x128 .i8) (D : Vec Ideal S32x128 .f16) (a b : BitVec 32) : FVec Ideal S32x128 .f32 :=
  mulf (mulf (extf .f32 (shapeCast S32x128 D shapeCasts_S32x128_S32x128) bitsLt_f16_f32) (broadcast S32x128 (Scalar.ofBits .f32 0x3F000000#32)))
    (sitofp .f32 (subi (ori (andi (shrsi (extui 32 (shapeCast S32x128 L shapeCasts_S1x32x128_S32x128) natLt_8_32) (broadcast S32x128 a)) (broadcast S32x128 15#32))
      (shli (andi (shrsi (extui 32 (shapeCast S32x128 H shapeCasts_S1x32x128_S32x128) natLt_8_32) (broadcast S32x128 b)) (broadcast S32x128 3#32)) (broadcast S32x128 4#32)))
      (broadcast S32x128 32#32)))

theorem gv32_apply (L H : Vec Ideal S1x32x128 .i8) (D : Vec Ideal S32x128 .f16) (a b : BitVec 32) (r : Fin 32) (l : Fin 128) :
    gv32 L H D a b (ix2 r l) = (D (ix2 r l) * hf) * (((scq (L (ix3 0 r l)) (H (ix3 0 r l)) a b).toInt : ℝ) : EReal) := by
  unfold gv32
  pointwise
  rfl

/-- Two such vectors as alternating rows. -/
def w32 (g0 g1 : FVec Ideal S32x128 .f32) : Vec Ideal S1x32x2x128 .bf16 :=
  interleaveRows S1x32x2x128 (shapeCast S1x32x1x128 (shapeCast S1x32x128 (truncf .bf16 g0) shapeCasts_S32x128_S1x32x128) shapeCasts_S1x32x128_S1x32x1x128)
    (shapeCast S1x32x1x128 (shapeCast S1x32x128 (truncf .bf16 g1) shapeCasts_S32x128_S1x32x128) shapeCasts_S1x32x128_S1x32x1x128) bitcasts_S1x32x2x128_w16_S1x32x1x128_w32

theorem w32_apply (g0 g1 : FVec Ideal S32x128 .f32) (r : Fin 32) (p : Fin 2) (l : Fin 128) :
    w32 g0 g1 (ix4 0 r p l) = if p.val = 0 then g0 (ix2 r l) else g1 (ix2 r l) := by
  unfold w32
  pointwise
  rw [Nat.mod_eq_of_lt p.isLt]

/-- A load of 32 rows of scale bytes. -/
abbrev lb32 (arg4 : Memref sig .tc .vmem S12x108x5120 .i8) (X : BufTy.Contents (Elt Ideal) arg4.view.ty) (off : Fin 3 → ℕ)
    (inb : ∀ a, off a + S1x32x128.size a ≤ S12x108x5120.size a) : Vec Ideal S1x32x128 .i8 :=
  View.readAt (Elt Ideal) arg4.view (Rect.unit (s := S12x108x5120) off S1x32x128.size inb).toLoadRect X

theorem lb32_apply (arg4 : Memref sig .tc .vmem S12x108x5120 .i8) (h : arg4.IsWhole) (x : Vec Ideal S12x108x5120 .i8) (off : Fin 3 → ℕ)
    (inb : ∀ a, off a + S1x32x128.size a ≤ S12x108x5120.size a) (K B k : ℕ) (hK : K < 12) (hB : B + 32 ≤ 108) (hk : k < 40)
    (hoff : off = ![K, B, 128 * k]) (r : Fin 32) (l : Fin 128) :
    lb32 arg4 (h.unread x) off inb (ix3 0 r l) = x (ix3 ⟨K, hK⟩ ⟨B + r.val, by omega⟩ ⟨128 * k + l.val, by omega⟩) := by
  unfold lb32
  rw [View.readAt_eq_ld, Memref.IsWhole.read_unread]
  subst hoff
  pointwise

/-- A load of 32 rows of block scales. -/
abbrev ld32 (arg5 : Memref sig .tc .vmem S108x5120 .f16) (X : BufTy.Contents (Elt Ideal) arg5.view.ty) (off : Fin 2 → ℕ)
    (inb : ∀ a, off a + S32x128.size a ≤ S108x5120.size a) : Vec Ideal S32x128 .f16 :=
  View.readAt (Elt Ideal) arg5.view (Rect.unit (s := S108x5120) off S32x128.size inb).toLoadRect X

theorem ld32_apply (arg5 : Memref sig .tc .vmem S108x5120 .f16) (h : arg5.IsWhole) (x : Vec Ideal S108x5120 .f16) (off : Fin 2 → ℕ)
    (inb : ∀ a, off a + S32x128.size a ≤ S108x5120.size a) (B k : ℕ) (hB : B + 32 ≤ 108) (hk : k < 40)
    (hoff : off = ![B, 128 * k]) (r : Fin 32) (l : Fin 128) :
    ld32 arg5 (h.unread x) off inb (ix2 r l) = x (ix2 ⟨B + r.val, by omega⟩ ⟨128 * k + l.val, by omega⟩) := by
  unfold ld32
  rw [View.readAt_eq_ld, Memref.IsWhole.read_unread]
  subst hoff
  pointwise

/-- The scales of 12 blocks, as the loop computes them: half the block scale times the group scale. -/
def gv12 (L H : Vec Ideal S1x12x128 .i8) (D : Vec Ideal S12x128 .f16) (a b : BitVec 32) : FVec Ideal S12x128 .f32 :=
  mulf (mulf (extf .f32 (shapeCast S12x128 D shapeCasts_S12x128_S12x128) bitsLt_f16_f32) (broadcast S12x128 (Scalar.ofBits .f32 0x3F000000#32)))
    (sitofp .f32 (subi (ori (andi (shrsi (extui 32 (shapeCast S12x128 L shapeCasts_S1x12x128_S12x128) natLt_8_32) (broadcast S12x128 a)) (broadcast S12x128 15#32))
      (shli (andi (shrsi (extui 32 (shapeCast S12x128 H shapeCasts_S1x12x128_S12x128) natLt_8_32) (broadcast S12x128 b)) (broadcast S12x128 3#32)) (broadcast S12x128 4#32)))
      (broadcast S12x128 32#32)))

theorem gv12_apply (L H : Vec Ideal S1x12x128 .i8) (D : Vec Ideal S12x128 .f16) (a b : BitVec 32) (r : Fin 12) (l : Fin 128) :
    gv12 L H D a b (ix2 r l) = (D (ix2 r l) * hf) * (((scq (L (ix3 0 r l)) (H (ix3 0 r l)) a b).toInt : ℝ) : EReal) := by
  unfold gv12
  pointwise
  rfl

/-- Two such vectors as alternating rows. -/
def w12 (g0 g1 : FVec Ideal S12x128 .f32) : Vec Ideal S1x12x2x128 .bf16 :=
  interleaveRows S1x12x2x128 (shapeCast S1x12x1x128 (shapeCast S1x12x128 (truncf .bf16 g0) shapeCasts_S12x128_S1x12x128) shapeCasts_S1x12x128_S1x12x1x128)
    (shapeCast S1x12x1x128 (shapeCast S1x12x128 (truncf .bf16 g1) shapeCasts_S12x128_S1x12x128) shapeCasts_S1x12x128_S1x12x1x128) bitcasts_S1x12x2x128_w16_S1x12x1x128_w32

theorem w12_apply (g0 g1 : FVec Ideal S12x128 .f32) (r : Fin 12) (p : Fin 2) (l : Fin 128) :
    w12 g0 g1 (ix4 0 r p l) = if p.val = 0 then g0 (ix2 r l) else g1 (ix2 r l) := by
  unfold w12
  pointwise
  rw [Nat.mod_eq_of_lt p.isLt]

/-- A load of 12 rows of scale bytes. -/
abbrev lb12 (arg4 : Memref sig .tc .vmem S12x108x5120 .i8) (X : BufTy.Contents (Elt Ideal) arg4.view.ty) (off : Fin 3 → ℕ)
    (inb : ∀ a, off a + S1x12x128.size a ≤ S12x108x5120.size a) : Vec Ideal S1x12x128 .i8 :=
  View.readAt (Elt Ideal) arg4.view (Rect.unit (s := S12x108x5120) off S1x12x128.size inb).toLoadRect X

theorem lb12_apply (arg4 : Memref sig .tc .vmem S12x108x5120 .i8) (h : arg4.IsWhole) (x : Vec Ideal S12x108x5120 .i8) (off : Fin 3 → ℕ)
    (inb : ∀ a, off a + S1x12x128.size a ≤ S12x108x5120.size a) (K B k : ℕ) (hK : K < 12) (hB : B + 12 ≤ 108) (hk : k < 40)
    (hoff : off = ![K, B, 128 * k]) (r : Fin 12) (l : Fin 128) :
    lb12 arg4 (h.unread x) off inb (ix3 0 r l) = x (ix3 ⟨K, hK⟩ ⟨B + r.val, by omega⟩ ⟨128 * k + l.val, by omega⟩) := by
  unfold lb12
  rw [View.readAt_eq_ld, Memref.IsWhole.read_unread]
  subst hoff
  pointwise

/-- A load of 12 rows of block scales. -/
abbrev ld12 (arg5 : Memref sig .tc .vmem S108x5120 .f16) (X : BufTy.Contents (Elt Ideal) arg5.view.ty) (off : Fin 2 → ℕ)
    (inb : ∀ a, off a + S12x128.size a ≤ S108x5120.size a) : Vec Ideal S12x128 .f16 :=
  View.readAt (Elt Ideal) arg5.view (Rect.unit (s := S108x5120) off S12x128.size inb).toLoadRect X

theorem ld12_apply (arg5 : Memref sig .tc .vmem S108x5120 .f16) (h : arg5.IsWhole) (x : Vec Ideal S108x5120 .f16) (off : Fin 2 → ℕ)
    (inb : ∀ a, off a + S12x128.size a ≤ S108x5120.size a) (B k : ℕ) (hB : B + 12 ≤ 108) (hk : k < 40)
    (hoff : off = ![B, 128 * k]) (r : Fin 12) (l : Fin 128) :
    ld12 arg5 (h.unread x) off inb (ix2 r l) = x (ix2 ⟨B + r.val, by omega⟩ ⟨128 * k + l.val, by omega⟩) := by
  unfold ld12
  rw [View.readAt_eq_ld, Memref.IsWhole.read_unread]
  subst hoff
  pointwise

/-- The scratch the loop fills: the pair `p` of row `w` of block `b` holds the scale of group
    `8 * (w / 4) + w % 4 + 4 * p`. -/
def scl (x3 : Vec Ideal S12x108x5120 .i8) (x4 : Vec Ideal S108x5120 .f16) (w : Fin 8) (b : Fin 108) (p : Fin 2) (o : Fin 5120) : EReal :=
  (x4 (ix2 b o) * hf) * (((scq (x3 (ix3 ⟨w.val % 4 + 4 * p.val, by omega⟩ b o)) (x3 (ix3 ⟨8 + w.val % 4, by omega⟩ b o))
    (BitVec.ofNat 32 (4 * (w.val / 4))) (BitVec.ofNat 32 (4 * (w.val / 4) + 2 * p.val))).toInt : ℝ) : EReal)

theorem piece32 (x3 : Vec Ideal S12x108x5120 .i8) (x4 : Vec Ideal S108x5120 .f16) (arg4 : Memref sig .tc .vmem S12x108x5120 .i8) (harg4 : arg4.IsWhole)
    (arg5 : Memref sig .tc .vmem S108x5120 .f16) (harg5 : arg5.IsWhole) (w B k : ℕ) (hw : w < 8) (hB : B + 32 ≤ 108) (hk : k < 40)
    (off : Fin 4 → ℕ) (inb : ∀ a, off a + S1x32x2x128.size a ≤ S8x108x2x5120.size a) (hoff : off = ![w, B, 0, 128 * k])
    (o0 o1 o2 : Fin 3 → ℕ) (o3 : Fin 2 → ℕ) (i0 : ∀ a, o0 a + S1x32x128.size a ≤ S12x108x5120.size a) (i1 : ∀ a, o1 a + S1x32x128.size a ≤ S12x108x5120.size a)
    (i2 : ∀ a, o2 a + S1x32x128.size a ≤ S12x108x5120.size a) (i3 : ∀ a, o3 a + S32x128.size a ≤ S108x5120.size a)
    (h0 : o0 = ![w % 4, B, 128 * k]) (h1 : o1 = ![w % 4 + 4, B, 128 * k]) (h2 : o2 = ![8 + w % 4, B, 128 * k]) (h3 : o3 = ![B, 128 * k])
    (a b0 b1 : BitVec 32) (ha : a = BitVec.ofNat 32 (4 * (w / 4))) (hb0 : b0 = BitVec.ofNat 32 (4 * (w / 4))) (hb1 : b1 = BitVec.ofNat 32 (4 * (w / 4) + 2))
    (x : (Rect.unit (s := S8x108x2x5120) off S1x32x2x128.size inb).shape.Idx) :
    w32 (gv32 (lb32 arg4 (harg4.unread x3) o0 i0) (lb32 arg4 (harg4.unread x3) o2 i2) (ld32 arg5 (harg5.unread x4) o3 i3) a b0)
        (gv32 (lb32 arg4 (harg4.unread x3) o1 i1) (lb32 arg4 (harg4.unread x3) o2 i2) (ld32 arg5 (harg5.unread x4) o3 i3) a b1) x
      = scl x3 x4 ((Rect.unit (s := S8x108x2x5120) off S1x32x2x128.size inb).emb x 0) ((Rect.unit (s := S8x108x2x5120) off S1x32x2x128.size inb).emb x 1)
          ((Rect.unit (s := S8x108x2x5120) off S1x32x2x128.size inb).emb x 2) ((Rect.unit (s := S8x108x2x5120) off S1x32x2x128.size inb).emb x 3) := by
  subst hoff
  have e0 : ((Rect.unit (s := S8x108x2x5120) ![w, B, 0, 128 * k] S1x32x2x128.size inb).emb x 0).val = w + (x 0).val := Rect.idx_unit_val _ _ inb x 0
  have e1 : ((Rect.unit (s := S8x108x2x5120) ![w, B, 0, 128 * k] S1x32x2x128.size inb).emb x 1).val = B + (x 1).val := Rect.idx_unit_val _ _ inb x 1
  have e2 : ((Rect.unit (s := S8x108x2x5120) ![w, B, 0, 128 * k] S1x32x2x128.size inb).emb x 2).val = 0 + (x 2).val := Rect.idx_unit_val _ _ inb x 2
  have e3 : ((Rect.unit (s := S8x108x2x5120) ![w, B, 0, 128 * k] S1x32x2x128.size inb).emb x 3).val = 128 * k + (x 3).val := Rect.idx_unit_val _ _ inb x 3
  have key : ∀ (y0 : Fin 1) (y1 : Fin 32) (y2 : Fin 2) (y3 : Fin 128) (z0 : Fin 8) (z1 : Fin 108) (z2 : Fin 2) (z3 : Fin 5120),
      z0.val = w + y0.val → z1.val = B + y1.val → z2.val = 0 + y2.val → z3.val = 128 * k + y3.val →
      w32 (gv32 (lb32 arg4 (harg4.unread x3) o0 i0) (lb32 arg4 (harg4.unread x3) o2 i2) (ld32 arg5 (harg5.unread x4) o3 i3) a b0)
        (gv32 (lb32 arg4 (harg4.unread x3) o1 i1) (lb32 arg4 (harg4.unread x3) o2 i2) (ld32 arg5 (harg5.unread x4) o3 i3) a b1) (ix4 y0 y1 y2 y3)
      = scl x3 x4 z0 z1 z2 z3 := by
    intro y0 y1 y2 y3 z0 z1 z2 z3 f0 f1 f2 f3
    obtain rfl : z0 = ⟨w, hw⟩ := Fin.ext (by have := y0.isLt; show z0.val = w; omega)
    obtain rfl : z1 = ⟨B + y1.val, by have := y1.isLt; clear f0 f1 f2 f3; omega⟩ := Fin.ext f1
    obtain rfl : z2 = y2 := Fin.ext (by omega)
    obtain rfl : z3 = ⟨128 * k + y3.val, by have := y3.isLt; clear f0 f2 f3; omega⟩ := Fin.ext f3
    obtain rfl : y0 = 0 := Subsingleton.elim _ _
    rw [w32_apply, gv32_apply, gv32_apply, ld32_apply arg5 harg5 x4 o3 i3 B k hB hk h3, lb32_apply arg4 harg4 x3 o0 i0 _ B k (by omega) hB hk h0,
      lb32_apply arg4 harg4 x3 o1 i1 _ B k (by omega) hB hk h1, lb32_apply arg4 harg4 x3 o2 i2 _ B k (by omega) hB hk h2, ha, hb0, hb1]
    unfold scl
    match z2 with
    | ⟨0, _⟩ => rfl
    | ⟨1, _⟩ => rfl
  exact (congrArg _ (eq_ix4 (n0 := 1) (n1 := 32) (n2 := 2) (n3 := 128) x)).trans (key (x 0) (x 1) (x 2) (x 3) _ _ _ _ e0 e1 e2 e3)

theorem piece12 (x3 : Vec Ideal S12x108x5120 .i8) (x4 : Vec Ideal S108x5120 .f16) (arg4 : Memref sig .tc .vmem S12x108x5120 .i8) (harg4 : arg4.IsWhole)
    (arg5 : Memref sig .tc .vmem S108x5120 .f16) (harg5 : arg5.IsWhole) (w B k : ℕ) (hw : w < 8) (hB : B + 12 ≤ 108) (hk : k < 40)
    (off : Fin 4 → ℕ) (inb : ∀ a, off a + S1x12x2x128.size a ≤ S8x108x2x5120.size a) (hoff : off = ![w, B, 0, 128 * k])
    (o0 o1 o2 : Fin 3 → ℕ) (o3 : Fin 2 → ℕ) (i0 : ∀ a, o0 a + S1x12x128.size a ≤ S12x108x5120.size a) (i1 : ∀ a, o1 a + S1x12x128.size a ≤ S12x108x5120.size a)
    (i2 : ∀ a, o2 a + S1x12x128.size a ≤ S12x108x5120.size a) (i3 : ∀ a, o3 a + S12x128.size a ≤ S108x5120.size a)
    (h0 : o0 = ![w % 4, B, 128 * k]) (h1 : o1 = ![w % 4 + 4, B, 128 * k]) (h2 : o2 = ![8 + w % 4, B, 128 * k]) (h3 : o3 = ![B, 128 * k])
    (a b0 b1 : BitVec 32) (ha : a = BitVec.ofNat 32 (4 * (w / 4))) (hb0 : b0 = BitVec.ofNat 32 (4 * (w / 4))) (hb1 : b1 = BitVec.ofNat 32 (4 * (w / 4) + 2))
    (x : (Rect.unit (s := S8x108x2x5120) off S1x12x2x128.size inb).shape.Idx) :
    w12 (gv12 (lb12 arg4 (harg4.unread x3) o0 i0) (lb12 arg4 (harg4.unread x3) o2 i2) (ld12 arg5 (harg5.unread x4) o3 i3) a b0)
        (gv12 (lb12 arg4 (harg4.unread x3) o1 i1) (lb12 arg4 (harg4.unread x3) o2 i2) (ld12 arg5 (harg5.unread x4) o3 i3) a b1) x
      = scl x3 x4 ((Rect.unit (s := S8x108x2x5120) off S1x12x2x128.size inb).emb x 0) ((Rect.unit (s := S8x108x2x5120) off S1x12x2x128.size inb).emb x 1)
          ((Rect.unit (s := S8x108x2x5120) off S1x12x2x128.size inb).emb x 2) ((Rect.unit (s := S8x108x2x5120) off S1x12x2x128.size inb).emb x 3) := by
  subst hoff
  have e0 : ((Rect.unit (s := S8x108x2x5120) ![w, B, 0, 128 * k] S1x12x2x128.size inb).emb x 0).val = w + (x 0).val := Rect.idx_unit_val _ _ inb x 0
  have e1 : ((Rect.unit (s := S8x108x2x5120) ![w, B, 0, 128 * k] S1x12x2x128.size inb).emb x 1).val = B + (x 1).val := Rect.idx_unit_val _ _ inb x 1
  have e2 : ((Rect.unit (s := S8x108x2x5120) ![w, B, 0, 128 * k] S1x12x2x128.size inb).emb x 2).val = 0 + (x 2).val := Rect.idx_unit_val _ _ inb x 2
  have e3 : ((Rect.unit (s := S8x108x2x5120) ![w, B, 0, 128 * k] S1x12x2x128.size inb).emb x 3).val = 128 * k + (x 3).val := Rect.idx_unit_val _ _ inb x 3
  have key : ∀ (y0 : Fin 1) (y1 : Fin 12) (y2 : Fin 2) (y3 : Fin 128) (z0 : Fin 8) (z1 : Fin 108) (z2 : Fin 2) (z3 : Fin 5120),
      z0.val = w + y0.val → z1.val = B + y1.val → z2.val = 0 + y2.val → z3.val = 128 * k + y3.val →
      w12 (gv12 (lb12 arg4 (harg4.unread x3) o0 i0) (lb12 arg4 (harg4.unread x3) o2 i2) (ld12 arg5 (harg5.unread x4) o3 i3) a b0)
        (gv12 (lb12 arg4 (harg4.unread x3) o1 i1) (lb12 arg4 (harg4.unread x3) o2 i2) (ld12 arg5 (harg5.unread x4) o3 i3) a b1) (ix4 y0 y1 y2 y3)
      = scl x3 x4 z0 z1 z2 z3 := by
    intro y0 y1 y2 y3 z0 z1 z2 z3 f0 f1 f2 f3
    obtain rfl : z0 = ⟨w, hw⟩ := Fin.ext (by have := y0.isLt; show z0.val = w; omega)
    obtain rfl : z1 = ⟨B + y1.val, by have := y1.isLt; clear f0 f1 f2 f3; omega⟩ := Fin.ext f1
    obtain rfl : z2 = y2 := Fin.ext (by omega)
    obtain rfl : z3 = ⟨128 * k + y3.val, by have := y3.isLt; clear f0 f2 f3; omega⟩ := Fin.ext f3
    obtain rfl : y0 = 0 := Subsingleton.elim _ _
    rw [w12_apply, gv12_apply, gv12_apply, ld12_apply arg5 harg5 x4 o3 i3 B k hB hk h3, lb12_apply arg4 harg4 x3 o0 i0 _ B k (by omega) hB hk h0,
      lb12_apply arg4 harg4 x3 o1 i1 _ B k (by omega) hB hk h1, lb12_apply arg4 harg4 x3 o2 i2 _ B k (by omega) hB hk h2, ha, hb0, hb1]
    unfold scl
    match z2 with
    | ⟨0, _⟩ => rfl
    | ⟨1, _⟩ => rfl
  exact (congrArg _ (eq_ix4 (n0 := 1) (n1 := 12) (n2 := 2) (n3 := 128) x)).trans (key (x 0) (x 1) (x 2) (x 3) _ _ _ _ e0 e1 e2 e3)

theorem trips1 : k0_t1_loop.trips = 40 := by decide +kernel
theorem hk1 (k : Fin k0_t1_loop.trips) : k.val < 40 := trips1 ▸ k.isLt
theorem word_o : ∀ k : Fin 40, (Scalar.indexCast (Scalar.muli (Scf.iv 0#32 1#32 k.val) 128#32) : BitVec 32).toNat = 128 * k.val := by
  decide +kernel

end Cert.KernelIdeal.Value

end
-- ==== Proof.Value.Scales.lean ====
/- The pieces one trip of the scale loop writes, and the scale scratch at an index. -/
module

public import proofs.«01_k».proof.Proof.Value.Scratch

@[expose] public section

set_option maxRecDepth 16384
set_option maxHeartbeats 2000000

noncomputable section

namespace Cert.KernelIdeal.Value

open Cert.KernelIdeal Cert.KernelIdeal.Gen
open Idealize.ShloMosaic Idealize.ShloMosaic.TcCoe Idealize.ShloMosaic.Tactic

/-- What a trip of the scale loop writes: eight rows of scale pairs for each of the four runs of blocks, last first. -/
theorem trip1_eq (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole)
    (h : k0_cond1 i = 1#1) (X4 : BufTy.Contents (Elt Ideal) arg4.view.ty) (X5 : BufTy.Contents (Elt Ideal) arg5.view.ty) (k : Fin k0_t1_loop.trips) :
    (trip_k0_t1 (F := Ideal) 𝒱 c bd i arg1 harg1 arg2 harg2 arg3 harg3 arg4 harg4 arg5 harg5 arg6 harg6 arg7 harg7 h X4 X5 k).1 =
    [⟨Rect.unit (s := S8x108x2x5120) (k0_off84 k) S1x12x2x128.size (k0_off84_inb i k h),
      w12 (gv12 (lb12 arg4 X4 (k0_off67 k) (k0_off67_inb i k h)) (lb12 arg4 X4 (k0_off75 k) (k0_off75_inb i k h)) (ld12 arg5 X5 (k0_off76 k) (k0_off76_inb i k h)) 4#32 4#32)
        (gv12 (lb12 arg4 X4 (k0_off71 k) (k0_off71_inb i k h)) (lb12 arg4 X4 (k0_off75 k) (k0_off75_inb i k h)) (ld12 arg5 X5 (k0_off76 k) (k0_off76_inb i k h)) 4#32 6#32)⟩,
     ⟨Rect.unit (s := S8x108x2x5120) (k0_off83 k) S1x12x2x128.size (k0_off83_inb i k h),
      w12 (gv12 (lb12 arg4 X4 (k0_off66 k) (k0_off66_inb i k h)) (lb12 arg4 X4 (k0_off74 k) (k0_off74_inb i k h)) (ld12 arg5 X5 (k0_off76 k) (k0_off76_inb i k h)) 4#32 4#32)
        (gv12 (lb12 arg4 X4 (k0_off70 k) (k0_off70_inb i k h)) (lb12 arg4 X4 (k0_off74 k) (k0_off74_inb i k h)) (ld12 arg5 X5 (k0_off76 k) (k0_off76_inb i k h)) 4#32 6#32)⟩,
     ⟨Rect.unit (s := S8x108x2x5120) (k0_off82 k) S1x12x2x128.size (k0_off82_inb i k h),
      w12 (gv12 (lb12 arg4 X4 (k0_off65 k) (k0_off65_inb i k h)) (lb12 arg4 X4 (k0_off73 k) (k0_off73_inb i k h)) (ld12 arg5 X5 (k0_off76 k) (k0_off76_inb i k h)) 4#32 4#32)
        (gv12 (lb12 arg4 X4 (k0_off69 k) (k0_off69_inb i k h)) (lb12 arg4 X4 (k0_off73 k) (k0_off73_inb i k h)) (ld12 arg5 X5 (k0_off76 k) (k0_off76_inb i k h)) 4#32 6#32)⟩,
     ⟨Rect.unit (s := S8x108x2x5120) (k0_off81 k) S1x12x2x128.size (k0_off81_inb i k h),
      w12 (gv12 (lb12 arg4 X4 (k0_off64 k) (k0_off64_inb i k h)) (lb12 arg4 X4 (k0_off72 k) (k0_off72_inb i k h)) (ld12 arg5 X5 (k0_off76 k) (k0_off76_inb i k h)) 4#32 4#32)
        (gv12 (lb12 arg4 X4 (k0_off68 k) (k0_off68_inb i k h)) (lb12 arg4 X4 (k0_off72 k) (k0_off72_inb i k h)) (ld12 arg5 X5 (k0_off76 k) (k0_off76_inb i k h)) 4#32 6#32)⟩,
     ⟨Rect.unit (s := S8x108x2x5120) (k0_off80 k) S1x12x2x128.size (k0_off80_inb i k h),
      w12 (gv12 (lb12 arg4 X4 (k0_off67 k) (k0_off67_inb i k h)) (lb12 arg4 X4 (k0_off75 k) (k0_off75_inb i k h)) (ld12 arg5 X5 (k0_off76 k) (k0_off76_inb i k h)) 0#32 0#32)
        (gv12 (lb12 arg4 X4 (k0_off71 k) (k0_off71_inb i k h)) (lb12 arg4 X4 (k0_off75 k) (k0_off75_inb i k h)) (ld12 arg5 X5 (k0_off76 k) (k0_off76_inb i k h)) 0#32 2#32)⟩,
     ⟨Rect.unit (s := S8x108x2x5120) (k0_off79 k) S1x12x2x128.size (k0_off79_inb i k h),
      w12 (gv12 (lb12 arg4 X4 (k0_off66 k) (k0_off66_inb i k h)) (lb12 arg4 X4 (k0_off74 k) (k0_off74_inb i k h)) (ld12 arg5 X5 (k0_off76 k) (k0_off76_inb i k h)) 0#32 0#32)
        (gv12 (lb12 arg4 X4 (k0_off70 k) (k0_off70_inb i k h)) (lb12 arg4 X4 (k0_off74 k) (k0_off74_inb i k h)) (ld12 arg5 X5 (k0_off76 k) (k0_off76_inb i k h)) 0#32 2#32)⟩,
     ⟨Rect.unit (s := S8x108x2x5120) (k0_off78 k) S1x12x2x128.size (k0_off78_inb i k h),
      w12 (gv12 (lb12 arg4 X4 (k0_off65 k) (k0_off65_inb i k h)) (lb12 arg4 X4 (k0_off73 k) (k0_off73_inb i k h)) (ld12 arg5 X5 (k0_off76 k) (k0_off76_inb i k h)) 0#32 0#32)
        (gv12 (lb12 arg4 X4 (k0_off69 k) (k0_off69_inb i k h)) (lb12 arg4 X4 (k0_off73 k) (k0_off73_inb i k h)) (ld12 arg5 X5 (k0_off76 k) (k0_off76_inb i k h)) 0#32 2#32)⟩,
     ⟨Rect.unit (s := S8x108x2x5120) (k0_off77 k) S1x12x2x128.size (k0_off77_inb i k h),
      w12 (gv12 (lb12 arg4 X4 (k0_off64 k) (k0_off64_inb i k h)) (lb12 arg4 X4 (k0_off72 k) (k0_off72_inb i k h)) (ld12 arg5 X5 (k0_off76 k) (k0_off76_inb i k h)) 0#32 0#32)
        (gv12 (lb12 arg4 X4 (k0_off68 k) (k0_off68_inb i k h)) (lb12 arg4 X4 (k0_off72 k) (k0_off72_inb i k h)) (ld12 arg5 X5 (k0_off76 k) (k0_off76_inb i k h)) 0#32 2#32)⟩,
     ⟨Rect.unit (s := S8x108x2x5120) (k0_off63 k) S1x32x2x128.size (k0_off63_inb i k h),
      w32 (gv32 (lb32 arg4 X4 (k0_off46 k) (k0_off46_inb i k h)) (lb32 arg4 X4 (k0_off54 k) (k0_off54_inb i k h)) (ld32 arg5 X5 (k0_off55 k) (k0_off55_inb i k h)) 4#32 4#32)
        (gv32 (lb32 arg4 X4 (k0_off50 k) (k0_off50_inb i k h)) (lb32 arg4 X4 (k0_off54 k) (k0_off54_inb i k h)) (ld32 arg5 X5 (k0_off55 k) (k0_off55_inb i k h)) 4#32 6#32)⟩,
     ⟨Rect.unit (s := S8x108x2x5120) (k0_off62 k) S1x32x2x128.size (k0_off62_inb i k h),
      w32 (gv32 (lb32 arg4 X4 (k0_off45 k) (k0_off45_inb i k h)) (lb32 arg4 X4 (k0_off53 k) (k0_off53_inb i k h)) (ld32 arg5 X5 (k0_off55 k) (k0_off55_inb i k h)) 4#32 4#32)
        (gv32 (lb32 arg4 X4 (k0_off49 k) (k0_off49_inb i k h)) (lb32 arg4 X4 (k0_off53 k) (k0_off53_inb i k h)) (ld32 arg5 X5 (k0_off55 k) (k0_off55_inb i k h)) 4#32 6#32)⟩,
     ⟨Rect.unit (s := S8x108x2x5120) (k0_off61 k) S1x32x2x128.size (k0_off61_inb i k h),
      w32 (gv32 (lb32 arg4 X4 (k0_off44 k) (k0_off44_inb i k h)) (lb32 arg4 X4 (k0_off52 k) (k0_off52_inb i k h)) (ld32 arg5 X5 (k0_off55 k) (k0_off55_inb i k h)) 4#32 4#32)
        (gv32 (lb32 arg4 X4 (k0_off48 k) (k0_off48_inb i k h)) (lb32 arg4 X4 (k0_off52 k) (k0_off52_inb i k h)) (ld32 arg5 X5 (k0_off55 k) (k0_off55_inb i k h)) 4#32 6#32)⟩,
     ⟨Rect.unit (s := S8x108x2x5120) (k0_off60 k) S1x32x2x128.size (k0_off60_inb i k h),
      w32 (gv32 (lb32 arg4 X4 (k0_off43 k) (k0_off43_inb i k h)) (lb32 arg4 X4 (k0_off51 k) (k0_off51_inb i k h)) (ld32 arg5 X5 (k0_off55 k) (k0_off55_inb i k h)) 4#32 4#32)
        (gv32 (lb32 arg4 X4 (k0_off47 k) (k0_off47_inb i k h)) (lb32 arg4 X4 (k0_off51 k) (k0_off51_inb i k h)) (ld32 arg5 X5 (k0_off55 k) (k0_off55_inb i k h)) 4#32 6#32)⟩,
     ⟨Rect.unit (s := S8x108x2x5120) (k0_off59 k) S1x32x2x128.size (k0_off59_inb i k h),
      w32 (gv32 (lb32 arg4 X4 (k0_off46 k) (k0_off46_inb i k h)) (lb32 arg4 X4 (k0_off54 k) (k0_off54_inb i k h)) (ld32 arg5 X5 (k0_off55 k) (k0_off55_inb i k h)) 0#32 0#32)
        (gv32 (lb32 arg4 X4 (k0_off50 k) (k0_off50_inb i k h)) (lb32 arg4 X4 (k0_off54 k) (k0_off54_inb i k h)) (ld32 arg5 X5 (k0_off55 k) (k0_off55_inb i k h)) 0#32 2#32)⟩,
     ⟨Rect.unit (s := S8x108x2x5120) (k0_off58 k) S1x32x2x128.size (k0_off58_inb i k h),
      w32 (gv32 (lb32 arg4 X4 (k0_off45 k) (k0_off45_inb i k h)) (lb32 arg4 X4 (k0_off53 k) (k0_off53_inb i k h)) (ld32 arg5 X5 (k0_off55 k) (k0_off55_inb i k h)) 0#32 0#32)
        (gv32 (lb32 arg4 X4 (k0_off49 k) (k0_off49_inb i k h)) (lb32 arg4 X4 (k0_off53 k) (k0_off53_inb i k h)) (ld32 arg5 X5 (k0_off55 k) (k0_off55_inb i k h)) 0#32 2#32)⟩,
     ⟨Rect.unit (s := S8x108x2x5120) (k0_off57 k) S1x32x2x128.size (k0_off57_inb i k h),
      w32 (gv32 (lb32 arg4 X4 (k0_off44 k) (k0_off44_inb i k h)) (lb32 arg4 X4 (k0_off52 k) (k0_off52_inb i k h)) (ld32 arg5 X5 (k0_off55 k) (k0_off55_inb i k h)) 0#32 0#32)
        (gv32 (lb32 arg4 X4 (k0_off48 k) (k0_off48_inb i k h)) (lb32 arg4 X4 (k0_off52 k) (k0_off52_inb i k h)) (ld32 arg5 X5 (k0_off55 k) (k0_off55_inb i k h)) 0#32 2#32)⟩,
     ⟨Rect.unit (s := S8x108x2x5120) (k0_off56 k) S1x32x2x128.size (k0_off56_inb i k h),
      w32 (gv32 (lb32 arg4 X4 (k0_off43 k) (k0_off43_inb i k h)) (lb32 arg4 X4 (k0_off51 k) (k0_off51_inb i k h)) (ld32 arg5 X5 (k0_off55 k) (k0_off55_inb i k h)) 0#32 0#32)
        (gv32 (lb32 arg4 X4 (k0_off47 k) (k0_off47_inb i k h)) (lb32 arg4 X4 (k0_off51 k) (k0_off51_inb i k h)) (ld32 arg5 X5 (k0_off55 k) (k0_off55_inb i k h)) 0#32 2#32)⟩,
     ⟨Rect.unit (s := S8x108x2x5120) (k0_off42 k) S1x32x2x128.size (k0_off42_inb i k h),
      w32 (gv32 (lb32 arg4 X4 (k0_off25 k) (k0_off25_inb i k h)) (lb32 arg4 X4 (k0_off33 k) (k0_off33_inb i k h)) (ld32 arg5 X5 (k0_off34 k) (k0_off34_inb i k h)) 4#32 4#32)
        (gv32 (lb32 arg4 X4 (k0_off29 k) (k0_off29_inb i k h)) (lb32 arg4 X4 (k0_off33 k) (k0_off33_inb i k h)) (ld32 arg5 X5 (k0_off34 k) (k0_off34_inb i k h)) 4#32 6#32)⟩,
     ⟨Rect.unit (s := S8x108x2x5120) (k0_off41 k) S1x32x2x128.size (k0_off41_inb i k h),
      w32 (gv32 (lb32 arg4 X4 (k0_off24 k) (k0_off24_inb i k h)) (lb32 arg4 X4 (k0_off32 k) (k0_off32_inb i k h)) (ld32 arg5 X5 (k0_off34 k) (k0_off34_inb i k h)) 4#32 4#32)
        (gv32 (lb32 arg4 X4 (k0_off28 k) (k0_off28_inb i k h)) (lb32 arg4 X4 (k0_off32 k) (k0_off32_inb i k h)) (ld32 arg5 X5 (k0_off34 k) (k0_off34_inb i k h)) 4#32 6#32)⟩,
     ⟨Rect.unit (s := S8x108x2x5120) (k0_off40 k) S1x32x2x128.size (k0_off40_inb i k h),
      w32 (gv32 (lb32 arg4 X4 (k0_off23 k) (k0_off23_inb i k h)) (lb32 arg4 X4 (k0_off31 k) (k0_off31_inb i k h)) (ld32 arg5 X5 (k0_off34 k) (k0_off34_inb i k h)) 4#32 4#32)
        (gv32 (lb32 arg4 X4 (k0_off27 k) (k0_off27_inb i k h)) (lb32 arg4 X4 (k0_off31 k) (k0_off31_inb i k h)) (ld32 arg5 X5 (k0_off34 k) (k0_off34_inb i k h)) 4#32 6#32)⟩,
     ⟨Rect.unit (s := S8x108x2x5120) (k0_off39 k) S1x32x2x128.size (k0_off39_inb i k h),
      w32 (gv32 (lb32 arg4 X4 (k0_off22 k) (k0_off22_inb i k h)) (lb32 arg4 X4 (k0_off30 k) (k0_off30_inb i k h)) (ld32 arg5 X5 (k0_off34 k) (k0_off34_inb i k h)) 4#32 4#32)
        (gv32 (lb32 arg4 X4 (k0_off26 k) (k0_off26_inb i k h)) (lb32 arg4 X4 (k0_off30 k) (k0_off30_inb i k h)) (ld32 arg5 X5 (k0_off34 k) (k0_off34_inb i k h)) 4#32 6#32)⟩,
     ⟨Rect.unit (s := S8x108x2x5120) (k0_off38 k) S1x32x2x128.size (k0_off38_inb i k h),
      w32 (gv32 (lb32 arg4 X4 (k0_off25 k) (k0_off25_inb i k h)) (lb32 arg4 X4 (k0_off33 k) (k0_off33_inb i k h)) (ld32 arg5 X5 (k0_off34 k) (k0_off34_inb i k h)) 0#32 0#32)
        (gv32 (lb32 arg4 X4 (k0_off29 k) (k0_off29_inb i k h)) (lb32 arg4 X4 (k0_off33 k) (k0_off33_inb i k h)) (ld32 arg5 X5 (k0_off34 k) (k0_off34_inb i k h)) 0#32 2#32)⟩,
     ⟨Rect.unit (s := S8x108x2x5120) (k0_off37 k) S1x32x2x128.size (k0_off37_inb i k h),
      w32 (gv32 (lb32 arg4 X4 (k0_off24 k) (k0_off24_inb i k h)) (lb32 arg4 X4 (k0_off32 k) (k0_off32_inb i k h)) (ld32 arg5 X5 (k0_off34 k) (k0_off34_inb i k h)) 0#32 0#32)
        (gv32 (lb32 arg4 X4 (k0_off28 k) (k0_off28_inb i k h)) (lb32 arg4 X4 (k0_off32 k) (k0_off32_inb i k h)) (ld32 arg5 X5 (k0_off34 k) (k0_off34_inb i k h)) 0#32 2#32)⟩,
     ⟨Rect.unit (s := S8x108x2x5120) (k0_off36 k) S1x32x2x128.size (k0_off36_inb i k h),
      w32 (gv32 (lb32 arg4 X4 (k0_off23 k) (k0_off23_inb i k h)) (lb32 arg4 X4 (k0_off31 k) (k0_off31_inb i k h)) (ld32 arg5 X5 (k0_off34 k) (k0_off34_inb i k h)) 0#32 0#32)
        (gv32 (lb32 arg4 X4 (k0_off27 k) (k0_off27_inb i k h)) (lb32 arg4 X4 (k0_off31 k) (k0_off31_inb i k h)) (ld32 arg5 X5 (k0_off34 k) (k0_off34_inb i k h)) 0#32 2#32)⟩,
     ⟨Rect.unit (s := S8x108x2x5120) (k0_off35 k) S1x32x2x128.size (k0_off35_inb i k h),
      w32 (gv32 (lb32 arg4 X4 (k0_off22 k) (k0_off22_inb i k h)) (lb32 arg4 X4 (k0_off30 k) (k0_off30_inb i k h)) (ld32 arg5 X5 (k0_off34 k) (k0_off34_inb i k h)) 0#32 0#32)
        (gv32 (lb32 arg4 X4 (k0_off26 k) (k0_off26_inb i k h)) (lb32 arg4 X4 (k0_off30 k) (k0_off30_inb i k h)) (ld32 arg5 X5 (k0_off34 k) (k0_off34_inb i k h)) 0#32 2#32)⟩,
     ⟨Rect.unit (s := S8x108x2x5120) (k0_off21 k) S1x32x2x128.size (k0_off21_inb i k h),
      w32 (gv32 (lb32 arg4 X4 (k0_off4 k) (k0_off4_inb i k h)) (lb32 arg4 X4 (k0_off12 k) (k0_off12_inb i k h)) (ld32 arg5 X5 (k0_off13 k) (k0_off13_inb i k h)) 4#32 4#32)
        (gv32 (lb32 arg4 X4 (k0_off8 k) (k0_off8_inb i k h)) (lb32 arg4 X4 (k0_off12 k) (k0_off12_inb i k h)) (ld32 arg5 X5 (k0_off13 k) (k0_off13_inb i k h)) 4#32 6#32)⟩,
     ⟨Rect.unit (s := S8x108x2x5120) (k0_off20 k) S1x32x2x128.size (k0_off20_inb i k h),
      w32 (gv32 (lb32 arg4 X4 (k0_off3 k) (k0_off3_inb i k h)) (lb32 arg4 X4 (k0_off11 k) (k0_off11_inb i k h)) (ld32 arg5 X5 (k0_off13 k) (k0_off13_inb i k h)) 4#32 4#32)
        (gv32 (lb32 arg4 X4 (k0_off7 k) (k0_off7_inb i k h)) (lb32 arg4 X4 (k0_off11 k) (k0_off11_inb i k h)) (ld32 arg5 X5 (k0_off13 k) (k0_off13_inb i k h)) 4#32 6#32)⟩,
     ⟨Rect.unit (s := S8x108x2x5120) (k0_off19 k) S1x32x2x128.size (k0_off19_inb i k h),
      w32 (gv32 (lb32 arg4 X4 (k0_off2 k) (k0_off2_inb i k h)) (lb32 arg4 X4 (k0_off10 k) (k0_off10_inb i k h)) (ld32 arg5 X5 (k0_off13 k) (k0_off13_inb i k h)) 4#32 4#32)
        (gv32 (lb32 arg4 X4 (k0_off6 k) (k0_off6_inb i k h)) (lb32 arg4 X4 (k0_off10 k) (k0_off10_inb i k h)) (ld32 arg5 X5 (k0_off13 k) (k0_off13_inb i k h)) 4#32 6#32)⟩,
     ⟨Rect.unit (s := S8x108x2x5120) (k0_off18 k) S1x32x2x128.size (k0_off18_inb i k h),
      w32 (gv32 (lb32 arg4 X4 (k0_off1 k) (k0_off1_inb i k h)) (lb32 arg4 X4 (k0_off9 k) (k0_off9_inb i k h)) (ld32 arg5 X5 (k0_off13 k) (k0_off13_inb i k h)) 4#32 4#32)
        (gv32 (lb32 arg4 X4 (k0_off5 k) (k0_off5_inb i k h)) (lb32 arg4 X4 (k0_off9 k) (k0_off9_inb i k h)) (ld32 arg5 X5 (k0_off13 k) (k0_off13_inb i k h)) 4#32 6#32)⟩,
     ⟨Rect.unit (s := S8x108x2x5120) (k0_off17 k) S1x32x2x128.size (k0_off17_inb i k h),
      w32 (gv32 (lb32 arg4 X4 (k0_off4 k) (k0_off4_inb i k h)) (lb32 arg4 X4 (k0_off12 k) (k0_off12_inb i k h)) (ld32 arg5 X5 (k0_off13 k) (k0_off13_inb i k h)) 0#32 0#32)
        (gv32 (lb32 arg4 X4 (k0_off8 k) (k0_off8_inb i k h)) (lb32 arg4 X4 (k0_off12 k) (k0_off12_inb i k h)) (ld32 arg5 X5 (k0_off13 k) (k0_off13_inb i k h)) 0#32 2#32)⟩,
     ⟨Rect.unit (s := S8x108x2x5120) (k0_off16 k) S1x32x2x128.size (k0_off16_inb i k h),
      w32 (gv32 (lb32 arg4 X4 (k0_off3 k) (k0_off3_inb i k h)) (lb32 arg4 X4 (k0_off11 k) (k0_off11_inb i k h)) (ld32 arg5 X5 (k0_off13 k) (k0_off13_inb i k h)) 0#32 0#32)
        (gv32 (lb32 arg4 X4 (k0_off7 k) (k0_off7_inb i k h)) (lb32 arg4 X4 (k0_off11 k) (k0_off11_inb i k h)) (ld32 arg5 X5 (k0_off13 k) (k0_off13_inb i k h)) 0#32 2#32)⟩,
     ⟨Rect.unit (s := S8x108x2x5120) (k0_off15 k) S1x32x2x128.size (k0_off15_inb i k h),
      w32 (gv32 (lb32 arg4 X4 (k0_off2 k) (k0_off2_inb i k h)) (lb32 arg4 X4 (k0_off10 k) (k0_off10_inb i k h)) (ld32 arg5 X5 (k0_off13 k) (k0_off13_inb i k h)) 0#32 0#32)
        (gv32 (lb32 arg4 X4 (k0_off6 k) (k0_off6_inb i k h)) (lb32 arg4 X4 (k0_off10 k) (k0_off10_inb i k h)) (ld32 arg5 X5 (k0_off13 k) (k0_off13_inb i k h)) 0#32 2#32)⟩,
     ⟨Rect.unit (s := S8x108x2x5120) (k0_off14 k) S1x32x2x128.size (k0_off14_inb i k h),
      w32 (gv32 (lb32 arg4 X4 (k0_off1 k) (k0_off1_inb i k h)) (lb32 arg4 X4 (k0_off9 k) (k0_off9_inb i k h)) (ld32 arg5 X5 (k0_off13 k) (k0_off13_inb i k h)) 0#32 0#32)
        (gv32 (lb32 arg4 X4 (k0_off5 k) (k0_off5_inb i k h)) (lb32 arg4 X4 (k0_off9 k) (k0_off9_inb i k h)) (ld32 arg5 X5 (k0_off13 k) (k0_off13_inb i k h)) 0#32 2#32)⟩] := by
  unfold trip_k0_t1
  rfl

theorem trip1_pieces (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole)
    (h : k0_cond1 i = 1#1) (x3 : Vec Ideal S12x108x5120 .i8) (x4 : Vec Ideal S108x5120 .f16) (k : Fin k0_t1_loop.trips) :
    ∀ p ∈ (trip_k0_t1 (F := Ideal) 𝒱 c bd i arg1 harg1 arg2 harg2 arg3 harg3 arg4 harg4 arg5 harg5 arg6 harg6 arg7 harg7 h (harg4.unread x3) (harg5.unread x4) k).1,
      ∀ x : p.1.shape.Idx, p.2 x = scl x3 x4 (p.1.emb x 0) (p.1.emb x 1) (p.1.emb x 2) (p.1.emb x 3) := by
  rw [trip1_eq]
  have wo := word_o ⟨k.val, hk1 k⟩
  intro p hp x
  rcases List.mem_cons.mp hp with rfl | hp
  · exact piece12 x3 x4 arg4 harg4 arg5 harg5 7 96 k.val (by omega) (by omega) (hk1 k) _ (k0_off84_inb i k h) (show k0_off84 k = ![7, 96, 0, 128 * k.val] from wo ▸ rfl)
      _ _ _ _ (k0_off67_inb i k h) (k0_off71_inb i k h) (k0_off75_inb i k h) (k0_off76_inb i k h)
      (show k0_off67 k = ![3, 96, 128 * k.val] from wo ▸ rfl) (show k0_off71 k = ![7, 96, 128 * k.val] from wo ▸ rfl) (show k0_off75 k = ![11, 96, 128 * k.val] from wo ▸ rfl) (show k0_off76 k = ![96, 128 * k.val] from wo ▸ rfl)
      4#32 4#32 6#32 rfl rfl rfl x
  rcases List.mem_cons.mp hp with rfl | hp
  · exact piece12 x3 x4 arg4 harg4 arg5 harg5 6 96 k.val (by omega) (by omega) (hk1 k) _ (k0_off83_inb i k h) (show k0_off83 k = ![6, 96, 0, 128 * k.val] from wo ▸ rfl)
      _ _ _ _ (k0_off66_inb i k h) (k0_off70_inb i k h) (k0_off74_inb i k h) (k0_off76_inb i k h)
      (show k0_off66 k = ![2, 96, 128 * k.val] from wo ▸ rfl) (show k0_off70 k = ![6, 96, 128 * k.val] from wo ▸ rfl) (show k0_off74 k = ![10, 96, 128 * k.val] from wo ▸ rfl) (show k0_off76 k = ![96, 128 * k.val] from wo ▸ rfl)
      4#32 4#32 6#32 rfl rfl rfl x
  rcases List.mem_cons.mp hp with rfl | hp
  · exact piece12 x3 x4 arg4 harg4 arg5 harg5 5 96 k.val (by omega) (by omega) (hk1 k) _ (k0_off82_inb i k h) (show k0_off82 k = ![5, 96, 0, 128 * k.val] from wo ▸ rfl)
      _ _ _ _ (k0_off65_inb i k h) (k0_off69_inb i k h) (k0_off73_inb i k h) (k0_off76_inb i k h)
      (show k0_off65 k = ![1, 96, 128 * k.val] from wo ▸ rfl) (show k0_off69 k = ![5, 96, 128 * k.val] from wo ▸ rfl) (show k0_off73 k = ![9, 96, 128 * k.val] from wo ▸ rfl) (show k0_off76 k = ![96, 128 * k.val] from wo ▸ rfl)
      4#32 4#32 6#32 rfl rfl rfl x
  rcases List.mem_cons.mp hp with rfl | hp
  · exact piece12 x3 x4 arg4 harg4 arg5 harg5 4 96 k.val (by omega) (by omega) (hk1 k) _ (k0_off81_inb i k h) (show k0_off81 k = ![4, 96, 0, 128 * k.val] from wo ▸ rfl)
      _ _ _ _ (k0_off64_inb i k h) (k0_off68_inb i k h) (k0_off72_inb i k h) (k0_off76_inb i k h)
      (show k0_off64 k = ![0, 96, 128 * k.val] from wo ▸ rfl) (show k0_off68 k = ![4, 96, 128 * k.val] from wo ▸ rfl) (show k0_off72 k = ![8, 96, 128 * k.val] from wo ▸ rfl) (show k0_off76 k = ![96, 128 * k.val] from wo ▸ rfl)
      4#32 4#32 6#32 rfl rfl rfl x
  rcases List.mem_cons.mp hp with rfl | hp
  · exact piece12 x3 x4 arg4 harg4 arg5 harg5 3 96 k.val (by omega) (by omega) (hk1 k) _ (k0_off80_inb i k h) (show k0_off80 k = ![3, 96, 0, 128 * k.val] from wo ▸ rfl)
      _ _ _ _ (k0_off67_inb i k h) (k0_off71_inb i k h) (k0_off75_inb i k h) (k0_off76_inb i k h)
      (show k0_off67 k = ![3, 96, 128 * k.val] from wo ▸ rfl) (show k0_off71 k = ![7, 96, 128 * k.val] from wo ▸ rfl) (show k0_off75 k = ![11, 96, 128 * k.val] from wo ▸ rfl) (show k0_off76 k = ![96, 128 * k.val] from wo ▸ rfl)
      0#32 0#32 2#32 rfl rfl rfl x
  rcases List.mem_cons.mp hp with rfl | hp
  · exact piece12 x3 x4 arg4 harg4 arg5 harg5 2 96 k.val (by omega) (by omega) (hk1 k) _ (k0_off79_inb i k h) (show k0_off79 k = ![2, 96, 0, 128 * k.val] from wo ▸ rfl)
      _ _ _ _ (k0_off66_inb i k h) (k0_off70_inb i k h) (k0_off74_inb i k h) (k0_off76_inb i k h)
      (show k0_off66 k = ![2, 96, 128 * k.val] from wo ▸ rfl) (show k0_off70 k = ![6, 96, 128 * k.val] from wo ▸ rfl) (show k0_off74 k = ![10, 96, 128 * k.val] from wo ▸ rfl) (show k0_off76 k = ![96, 128 * k.val] from wo ▸ rfl)
      0#32 0#32 2#32 rfl rfl rfl x
  rcases List.mem_cons.mp hp with rfl | hp
  · exact piece12 x3 x4 arg4 harg4 arg5 harg5 1 96 k.val (by omega) (by omega) (hk1 k) _ (k0_off78_inb i k h) (show k0_off78 k = ![1, 96, 0, 128 * k.val] from wo ▸ rfl)
      _ _ _ _ (k0_off65_inb i k h) (k0_off69_inb i k h) (k0_off73_inb i k h) (k0_off76_inb i k h)
      (show k0_off65 k = ![1, 96, 128 * k.val] from wo ▸ rfl) (show k0_off69 k = ![5, 96, 128 * k.val] from wo ▸ rfl) (show k0_off73 k = ![9, 96, 128 * k.val] from wo ▸ rfl) (show k0_off76 k = ![96, 128 * k.val] from wo ▸ rfl)
      0#32 0#32 2#32 rfl rfl rfl x
  rcases List.mem_cons.mp hp with rfl | hp
  · exact piece12 x3 x4 arg4 harg4 arg5 harg5 0 96 k.val (by omega) (by omega) (hk1 k) _ (k0_off77_inb i k h) (show k0_off77 k = ![0, 96, 0, 128 * k.val] from wo ▸ rfl)
      _ _ _ _ (k0_off64_inb i k h) (k0_off68_inb i k h) (k0_off72_inb i k h) (k0_off76_inb i k h)
      (show k0_off64 k = ![0, 96, 128 * k.val] from wo ▸ rfl) (show k0_off68 k = ![4, 96, 128 * k.val] from wo ▸ rfl) (show k0_off72 k = ![8, 96, 128 * k.val] from wo ▸ rfl) (show k0_off76 k = ![96, 128 * k.val] from wo ▸ rfl)
      0#32 0#32 2#32 rfl rfl rfl x
  rcases List.mem_cons.mp hp with rfl | hp
  · exact piece32 x3 x4 arg4 harg4 arg5 harg5 7 64 k.val (by omega) (by omega) (hk1 k) _ (k0_off63_inb i k h) (show k0_off63 k = ![7, 64, 0, 128 * k.val] from wo ▸ rfl)
      _ _ _ _ (k0_off46_inb i k h) (k0_off50_inb i k h) (k0_off54_inb i k h) (k0_off55_inb i k h)
      (show k0_off46 k = ![3, 64, 128 * k.val] from wo ▸ rfl) (show k0_off50 k = ![7, 64, 128 * k.val] from wo ▸ rfl) (show k0_off54 k = ![11, 64, 128 * k.val] from wo ▸ rfl) (show k0_off55 k = ![64, 128 * k.val] from wo ▸ rfl)
      4#32 4#32 6#32 rfl rfl rfl x
  rcases List.mem_cons.mp hp with rfl | hp
  · exact piece32 x3 x4 arg4 harg4 arg5 harg5 6 64 k.val (by omega) (by omega) (hk1 k) _ (k0_off62_inb i k h) (show k0_off62 k = ![6, 64, 0, 128 * k.val] from wo ▸ rfl)
      _ _ _ _ (k0_off45_inb i k h) (k0_off49_inb i k h) (k0_off53_inb i k h) (k0_off55_inb i k h)
      (show k0_off45 k = ![2, 64, 128 * k.val] from wo ▸ rfl) (show k0_off49 k = ![6, 64, 128 * k.val] from wo ▸ rfl) (show k0_off53 k = ![10, 64, 128 * k.val] from wo ▸ rfl) (show k0_off55 k = ![64, 128 * k.val] from wo ▸ rfl)
      4#32 4#32 6#32 rfl rfl rfl x
  rcases List.mem_cons.mp hp with rfl | hp
  · exact piece32 x3 x4 arg4 harg4 arg5 harg5 5 64 k.val (by omega) (by omega) (hk1 k) _ (k0_off61_inb i k h) (show k0_off61 k = ![5, 64, 0, 128 * k.val] from wo ▸ rfl)
      _ _ _ _ (k0_off44_inb i k h) (k0_off48_inb i k h) (k0_off52_inb i k h) (k0_off55_inb i k h)
      (show k0_off44 k = ![1, 64, 128 * k.val] from wo ▸ rfl) (show k0_off48 k = ![5, 64, 128 * k.val] from wo ▸ rfl) (show k0_off52 k = ![9, 64, 128 * k.val] from wo ▸ rfl) (show k0_off55 k = ![64, 128 * k.val] from wo ▸ rfl)
      4#32 4#32 6#32 rfl rfl rfl x
  rcases List.mem_cons.mp hp with rfl | hp
  · exact piece32 x3 x4 arg4 harg4 arg5 harg5 4 64 k.val (by omega) (by omega) (hk1 k) _ (k0_off60_inb i k h) (show k0_off60 k = ![4, 64, 0, 128 * k.val] from wo ▸ rfl)
      _ _ _ _ (k0_off43_inb i k h) (k0_off47_inb i k h) (k0_off51_inb i k h) (k0_off55_inb i k h)
      (show k0_off43 k = ![0, 64, 128 * k.val] from wo ▸ rfl) (show k0_off47 k = ![4, 64, 128 * k.val] from wo ▸ rfl) (show k0_off51 k = ![8, 64, 128 * k.val] from wo ▸ rfl) (show k0_off55 k = ![64, 128 * k.val] from wo ▸ rfl)
      4#32 4#32 6#32 rfl rfl rfl x
  rcases List.mem_cons.mp hp with rfl | hp
  · exact piece32 x3 x4 arg4 harg4 arg5 harg5 3 64 k.val (by omega) (by omega) (hk1 k) _ (k0_off59_inb i k h) (show k0_off59 k = ![3, 64, 0, 128 * k.val] from wo ▸ rfl)
      _ _ _ _ (k0_off46_inb i k h) (k0_off50_inb i k h) (k0_off54_inb i k h) (k0_off55_inb i k h)
      (show k0_off46 k = ![3, 64, 128 * k.val] from wo ▸ rfl) (show k0_off50 k = ![7, 64, 128 * k.val] from wo ▸ rfl) (show k0_off54 k = ![11, 64, 128 * k.val] from wo ▸ rfl) (show k0_off55 k = ![64, 128 * k.val] from wo ▸ rfl)
      0#32 0#32 2#32 rfl rfl rfl x
  rcases List.mem_cons.mp hp with rfl | hp
  · exact piece32 x3 x4 arg4 harg4 arg5 harg5 2 64 k.val (by omega) (by omega) (hk1 k) _ (k0_off58_inb i k h) (show k0_off58 k = ![2, 64, 0, 128 * k.val] from wo ▸ rfl)
      _ _ _ _ (k0_off45_inb i k h) (k0_off49_inb i k h) (k0_off53_inb i k h) (k0_off55_inb i k h)
      (show k0_off45 k = ![2, 64, 128 * k.val] from wo ▸ rfl) (show k0_off49 k = ![6, 64, 128 * k.val] from wo ▸ rfl) (show k0_off53 k = ![10, 64, 128 * k.val] from wo ▸ rfl) (show k0_off55 k = ![64, 128 * k.val] from wo ▸ rfl)
      0#32 0#32 2#32 rfl rfl rfl x
  rcases List.mem_cons.mp hp with rfl | hp
  · exact piece32 x3 x4 arg4 harg4 arg5 harg5 1 64 k.val (by omega) (by omega) (hk1 k) _ (k0_off57_inb i k h) (show k0_off57 k = ![1, 64, 0, 128 * k.val] from wo ▸ rfl)
      _ _ _ _ (k0_off44_inb i k h) (k0_off48_inb i k h) (k0_off52_inb i k h) (k0_off55_inb i k h)
      (show k0_off44 k = ![1, 64, 128 * k.val] from wo ▸ rfl) (show k0_off48 k = ![5, 64, 128 * k.val] from wo ▸ rfl) (show k0_off52 k = ![9, 64, 128 * k.val] from wo ▸ rfl) (show k0_off55 k = ![64, 128 * k.val] from wo ▸ rfl)
      0#32 0#32 2#32 rfl rfl rfl x
  rcases List.mem_cons.mp hp with rfl | hp
  · exact piece32 x3 x4 arg4 harg4 arg5 harg5 0 64 k.val (by omega) (by omega) (hk1 k) _ (k0_off56_inb i k h) (show k0_off56 k = ![0, 64, 0, 128 * k.val] from wo ▸ rfl)
      _ _ _ _ (k0_off43_inb i k h) (k0_off47_inb i k h) (k0_off51_inb i k h) (k0_off55_inb i k h)
      (show k0_off43 k = ![0, 64, 128 * k.val] from wo ▸ rfl) (show k0_off47 k = ![4, 64, 128 * k.val] from wo ▸ rfl) (show k0_off51 k = ![8, 64, 128 * k.val] from wo ▸ rfl) (show k0_off55 k = ![64, 128 * k.val] from wo ▸ rfl)
      0#32 0#32 2#32 rfl rfl rfl x
  rcases List.mem_cons.mp hp with rfl | hp
  · exact piece32 x3 x4 arg4 harg4 arg5 harg5 7 32 k.val (by omega) (by omega) (hk1 k) _ (k0_off42_inb i k h) (show k0_off42 k = ![7, 32, 0, 128 * k.val] from wo ▸ rfl)
      _ _ _ _ (k0_off25_inb i k h) (k0_off29_inb i k h) (k0_off33_inb i k h) (k0_off34_inb i k h)
      (show k0_off25 k = ![3, 32, 128 * k.val] from wo ▸ rfl) (show k0_off29 k = ![7, 32, 128 * k.val] from wo ▸ rfl) (show k0_off33 k = ![11, 32, 128 * k.val] from wo ▸ rfl) (show k0_off34 k = ![32, 128 * k.val] from wo ▸ rfl)
      4#32 4#32 6#32 rfl rfl rfl x
  rcases List.mem_cons.mp hp with rfl | hp
  · exact piece32 x3 x4 arg4 harg4 arg5 harg5 6 32 k.val (by omega) (by omega) (hk1 k) _ (k0_off41_inb i k h) (show k0_off41 k = ![6, 32, 0, 128 * k.val] from wo ▸ rfl)
      _ _ _ _ (k0_off24_inb i k h) (k0_off28_inb i k h) (k0_off32_inb i k h) (k0_off34_inb i k h)
      (show k0_off24 k = ![2, 32, 128 * k.val] from wo ▸ rfl) (show k0_off28 k = ![6, 32, 128 * k.val] from wo ▸ rfl) (show k0_off32 k = ![10, 32, 128 * k.val] from wo ▸ rfl) (show k0_off34 k = ![32, 128 * k.val] from wo ▸ rfl)
      4#32 4#32 6#32 rfl rfl rfl x
  rcases List.mem_cons.mp hp with rfl | hp
  · exact piece32 x3 x4 arg4 harg4 arg5 harg5 5 32 k.val (by omega) (by omega) (hk1 k) _ (k0_off40_inb i k h) (show k0_off40 k = ![5, 32, 0, 128 * k.val] from wo ▸ rfl)
      _ _ _ _ (k0_off23_inb i k h) (k0_off27_inb i k h) (k0_off31_inb i k h) (k0_off34_inb i k h)
      (show k0_off23 k = ![1, 32, 128 * k.val] from wo ▸ rfl) (show k0_off27 k = ![5, 32, 128 * k.val] from wo ▸ rfl) (show k0_off31 k = ![9, 32, 128 * k.val] from wo ▸ rfl) (show k0_off34 k = ![32, 128 * k.val] from wo ▸ rfl)
      4#32 4#32 6#32 rfl rfl rfl x
  rcases List.mem_cons.mp hp with rfl | hp
  · exact piece32 x3 x4 arg4 harg4 arg5 harg5 4 32 k.val (by omega) (by omega) (hk1 k) _ (k0_off39_inb i k h) (show k0_off39 k = ![4, 32, 0, 128 * k.val] from wo ▸ rfl)
      _ _ _ _ (k0_off22_inb i k h) (k0_off26_inb i k h) (k0_off30_inb i k h) (k0_off34_inb i k h)
      (show k0_off22 k = ![0, 32, 128 * k.val] from wo ▸ rfl) (show k0_off26 k = ![4, 32, 128 * k.val] from wo ▸ rfl) (show k0_off30 k = ![8, 32, 128 * k.val] from wo ▸ rfl) (show k0_off34 k = ![32, 128 * k.val] from wo ▸ rfl)
      4#32 4#32 6#32 rfl rfl rfl x
  rcases List.mem_cons.mp hp with rfl | hp
  · exact piece32 x3 x4 arg4 harg4 arg5 harg5 3 32 k.val (by omega) (by omega) (hk1 k) _ (k0_off38_inb i k h) (show k0_off38 k = ![3, 32, 0, 128 * k.val] from wo ▸ rfl)
      _ _ _ _ (k0_off25_inb i k h) (k0_off29_inb i k h) (k0_off33_inb i k h) (k0_off34_inb i k h)
      (show k0_off25 k = ![3, 32, 128 * k.val] from wo ▸ rfl) (show k0_off29 k = ![7, 32, 128 * k.val] from wo ▸ rfl) (show k0_off33 k = ![11, 32, 128 * k.val] from wo ▸ rfl) (show k0_off34 k = ![32, 128 * k.val] from wo ▸ rfl)
      0#32 0#32 2#32 rfl rfl rfl x
  rcases List.mem_cons.mp hp with rfl | hp
  · exact piece32 x3 x4 arg4 harg4 arg5 harg5 2 32 k.val (by omega) (by omega) (hk1 k) _ (k0_off37_inb i k h) (show k0_off37 k = ![2, 32, 0, 128 * k.val] from wo ▸ rfl)
      _ _ _ _ (k0_off24_inb i k h) (k0_off28_inb i k h) (k0_off32_inb i k h) (k0_off34_inb i k h)
      (show k0_off24 k = ![2, 32, 128 * k.val] from wo ▸ rfl) (show k0_off28 k = ![6, 32, 128 * k.val] from wo ▸ rfl) (show k0_off32 k = ![10, 32, 128 * k.val] from wo ▸ rfl) (show k0_off34 k = ![32, 128 * k.val] from wo ▸ rfl)
      0#32 0#32 2#32 rfl rfl rfl x
  rcases List.mem_cons.mp hp with rfl | hp
  · exact piece32 x3 x4 arg4 harg4 arg5 harg5 1 32 k.val (by omega) (by omega) (hk1 k) _ (k0_off36_inb i k h) (show k0_off36 k = ![1, 32, 0, 128 * k.val] from wo ▸ rfl)
      _ _ _ _ (k0_off23_inb i k h) (k0_off27_inb i k h) (k0_off31_inb i k h) (k0_off34_inb i k h)
      (show k0_off23 k = ![1, 32, 128 * k.val] from wo ▸ rfl) (show k0_off27 k = ![5, 32, 128 * k.val] from wo ▸ rfl) (show k0_off31 k = ![9, 32, 128 * k.val] from wo ▸ rfl) (show k0_off34 k = ![32, 128 * k.val] from wo ▸ rfl)
      0#32 0#32 2#32 rfl rfl rfl x
  rcases List.mem_cons.mp hp with rfl | hp
  · exact piece32 x3 x4 arg4 harg4 arg5 harg5 0 32 k.val (by omega) (by omega) (hk1 k) _ (k0_off35_inb i k h) (show k0_off35 k = ![0, 32, 0, 128 * k.val] from wo ▸ rfl)
      _ _ _ _ (k0_off22_inb i k h) (k0_off26_inb i k h) (k0_off30_inb i k h) (k0_off34_inb i k h)
      (show k0_off22 k = ![0, 32, 128 * k.val] from wo ▸ rfl) (show k0_off26 k = ![4, 32, 128 * k.val] from wo ▸ rfl) (show k0_off30 k = ![8, 32, 128 * k.val] from wo ▸ rfl) (show k0_off34 k = ![32, 128 * k.val] from wo ▸ rfl)
      0#32 0#32 2#32 rfl rfl rfl x
  rcases List.mem_cons.mp hp with rfl | hp
  · exact piece32 x3 x4 arg4 harg4 arg5 harg5 7 0 k.val (by omega) (by omega) (hk1 k) _ (k0_off21_inb i k h) (show k0_off21 k = ![7, 0, 0, 128 * k.val] from wo ▸ rfl)
      _ _ _ _ (k0_off4_inb i k h) (k0_off8_inb i k h) (k0_off12_inb i k h) (k0_off13_inb i k h)
      (show k0_off4 k = ![3, 0, 128 * k.val] from wo ▸ rfl) (show k0_off8 k = ![7, 0, 128 * k.val] from wo ▸ rfl) (show k0_off12 k = ![11, 0, 128 * k.val] from wo ▸ rfl) (show k0_off13 k = ![0, 128 * k.val] from wo ▸ rfl)
      4#32 4#32 6#32 rfl rfl rfl x
  rcases List.mem_cons.mp hp with rfl | hp
  · exact piece32 x3 x4 arg4 harg4 arg5 harg5 6 0 k.val (by omega) (by omega) (hk1 k) _ (k0_off20_inb i k h) (show k0_off20 k = ![6, 0, 0, 128 * k.val] from wo ▸ rfl)
      _ _ _ _ (k0_off3_inb i k h) (k0_off7_inb i k h) (k0_off11_inb i k h) (k0_off13_inb i k h)
      (show k0_off3 k = ![2, 0, 128 * k.val] from wo ▸ rfl) (show k0_off7 k = ![6, 0, 128 * k.val] from wo ▸ rfl) (show k0_off11 k = ![10, 0, 128 * k.val] from wo ▸ rfl) (show k0_off13 k = ![0, 128 * k.val] from wo ▸ rfl)
      4#32 4#32 6#32 rfl rfl rfl x
  rcases List.mem_cons.mp hp with rfl | hp
  · exact piece32 x3 x4 arg4 harg4 arg5 harg5 5 0 k.val (by omega) (by omega) (hk1 k) _ (k0_off19_inb i k h) (show k0_off19 k = ![5, 0, 0, 128 * k.val] from wo ▸ rfl)
      _ _ _ _ (k0_off2_inb i k h) (k0_off6_inb i k h) (k0_off10_inb i k h) (k0_off13_inb i k h)
      (show k0_off2 k = ![1, 0, 128 * k.val] from wo ▸ rfl) (show k0_off6 k = ![5, 0, 128 * k.val] from wo ▸ rfl) (show k0_off10 k = ![9, 0, 128 * k.val] from wo ▸ rfl) (show k0_off13 k = ![0, 128 * k.val] from wo ▸ rfl)
      4#32 4#32 6#32 rfl rfl rfl x
  rcases List.mem_cons.mp hp with rfl | hp
  · exact piece32 x3 x4 arg4 harg4 arg5 harg5 4 0 k.val (by omega) (by omega) (hk1 k) _ (k0_off18_inb i k h) (show k0_off18 k = ![4, 0, 0, 128 * k.val] from wo ▸ rfl)
      _ _ _ _ (k0_off1_inb i k h) (k0_off5_inb i k h) (k0_off9_inb i k h) (k0_off13_inb i k h)
      (show k0_off1 k = ![0, 0, 128 * k.val] from wo ▸ rfl) (show k0_off5 k = ![4, 0, 128 * k.val] from wo ▸ rfl) (show k0_off9 k = ![8, 0, 128 * k.val] from wo ▸ rfl) (show k0_off13 k = ![0, 128 * k.val] from wo ▸ rfl)
      4#32 4#32 6#32 rfl rfl rfl x
  rcases List.mem_cons.mp hp with rfl | hp
  · exact piece32 x3 x4 arg4 harg4 arg5 harg5 3 0 k.val (by omega) (by omega) (hk1 k) _ (k0_off17_inb i k h) (show k0_off17 k = ![3, 0, 0, 128 * k.val] from wo ▸ rfl)
      _ _ _ _ (k0_off4_inb i k h) (k0_off8_inb i k h) (k0_off12_inb i k h) (k0_off13_inb i k h)
      (show k0_off4 k = ![3, 0, 128 * k.val] from wo ▸ rfl) (show k0_off8 k = ![7, 0, 128 * k.val] from wo ▸ rfl) (show k0_off12 k = ![11, 0, 128 * k.val] from wo ▸ rfl) (show k0_off13 k = ![0, 128 * k.val] from wo ▸ rfl)
      0#32 0#32 2#32 rfl rfl rfl x
  rcases List.mem_cons.mp hp with rfl | hp
  · exact piece32 x3 x4 arg4 harg4 arg5 harg5 2 0 k.val (by omega) (by omega) (hk1 k) _ (k0_off16_inb i k h) (show k0_off16 k = ![2, 0, 0, 128 * k.val] from wo ▸ rfl)
      _ _ _ _ (k0_off3_inb i k h) (k0_off7_inb i k h) (k0_off11_inb i k h) (k0_off13_inb i k h)
      (show k0_off3 k = ![2, 0, 128 * k.val] from wo ▸ rfl) (show k0_off7 k = ![6, 0, 128 * k.val] from wo ▸ rfl) (show k0_off11 k = ![10, 0, 128 * k.val] from wo ▸ rfl) (show k0_off13 k = ![0, 128 * k.val] from wo ▸ rfl)
      0#32 0#32 2#32 rfl rfl rfl x
  rcases List.mem_cons.mp hp with rfl | hp
  · exact piece32 x3 x4 arg4 harg4 arg5 harg5 1 0 k.val (by omega) (by omega) (hk1 k) _ (k0_off15_inb i k h) (show k0_off15 k = ![1, 0, 0, 128 * k.val] from wo ▸ rfl)
      _ _ _ _ (k0_off2_inb i k h) (k0_off6_inb i k h) (k0_off10_inb i k h) (k0_off13_inb i k h)
      (show k0_off2 k = ![1, 0, 128 * k.val] from wo ▸ rfl) (show k0_off6 k = ![5, 0, 128 * k.val] from wo ▸ rfl) (show k0_off10 k = ![9, 0, 128 * k.val] from wo ▸ rfl) (show k0_off13 k = ![0, 128 * k.val] from wo ▸ rfl)
      0#32 0#32 2#32 rfl rfl rfl x
  rcases List.mem_cons.mp hp with rfl | hp
  · exact piece32 x3 x4 arg4 harg4 arg5 harg5 0 0 k.val (by omega) (by omega) (hk1 k) _ (k0_off14_inb i k h) (show k0_off14 k = ![0, 0, 0, 128 * k.val] from wo ▸ rfl)
      _ _ _ _ (k0_off1_inb i k h) (k0_off5_inb i k h) (k0_off9_inb i k h) (k0_off13_inb i k h)
      (show k0_off1 k = ![0, 0, 128 * k.val] from wo ▸ rfl) (show k0_off5 k = ![4, 0, 128 * k.val] from wo ▸ rfl) (show k0_off9 k = ![8, 0, 128 * k.val] from wo ▸ rfl) (show k0_off13 k = ![0, 128 * k.val] from wo ▸ rfl)
      0#32 0#32 2#32 rfl rfl rfl x
  exact absurd hp List.not_mem_nil

theorem pb1_pieces (𝒱 : Variants) (c : Dev nD) (bd : Option 𝒱.V) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole)
    (h : k0_cond1 i = 1#1) (x3 : Vec Ideal S12x108x5120 .i8) (x4 : Vec Ideal S108x5120 .f16) (k : ℕ) (hk : k ≤ k0_t1_loop.trips) :
    ∀ p ∈ pb_k0_t1 (F := Ideal) 𝒱 c bd i arg1 harg1 arg2 harg2 arg3 harg3 arg4 harg4 arg5 harg5 arg6 harg6 arg7 harg7 h (harg4.unread x3) (harg5.unread x4) k,
      ∀ x : p.1.shape.Idx, p.2 x = scl x3 x4 (p.1.emb x 0) (p.1.emb x 1) (p.1.emb x 2) (p.1.emb x 3) := by
  induction k with
  | zero => intro p hp; exact absurd hp List.not_mem_nil
  | succ k ih =>
    intro p hp x
    have e := pb_k0_t1_succ (F := Ideal) 𝒱 c bd i arg1 harg1 arg2 harg2 arg3 harg3 arg4 harg4 arg5 harg5 arg6 harg6 arg7 harg7 h (harg4.unread x3) (harg5.unread x4) ⟨k, hk⟩
    rw [e, List.mem_append] at hp
    rcases hp with hp | hp
    · exact trip1_pieces 𝒱 c bd i arg1 harg1 arg2 harg2 arg3 harg3 arg4 harg4 arg5 harg5 arg6 harg6 arg7 harg7 h x3 x4 ⟨k, hk⟩ p hp x
    · exact ih (by omega) p hp x

/-- The scale scratch after the loop, at an index. -/
theorem scrB_apply (c : Dev nD) (i : grid0.Coords) (arg1 : Memref sig .tc .vmem S128x5120 .bf16) (harg1 : arg1.IsWhole) (arg2 : Memref sig .tc .vmem S4x32x5120 .i8) (harg2 : arg2.IsWhole) (arg3 : Memref sig .tc .vmem S4x64x5120 .i8) (harg3 : arg3.IsWhole) (arg4 : Memref sig .tc .vmem S12x108x5120 .i8) (harg4 : arg4.IsWhole) (arg5 : Memref sig .tc .vmem S108x5120 .f16) (harg5 : arg5.IsWhole) (arg6 : Memref sig .tc .vmem S128x1024 .bf16) (harg6 : arg6.IsWhole) (arg7 : Memref sig .tc .vmem S8x108x2x5120 .bf16) (harg7 : arg7.IsWhole) (h : Body.cond0_0 i)
    (x3 : Vec Ideal S12x108x5120 .i8) (x4 : Vec Ideal S108x5120 .f16) (w : Fin 8) (b : Fin 108) (p : Fin 2) (o : Fin 5120) :
    Body.scrB (F := Ideal) c i arg1 harg1 arg2 harg2 arg3 harg3 arg4 harg4 arg5 harg5 arg6 harg6 arg7 harg7 h x3 x4 (ix4 w b p o) = scl x3 x4 w b p o := by
  unfold Body.scrB
  rw [View.read_writes_eq_canon _ _ _ (Body.scrL_cover c i arg1 harg1 arg2 harg2 arg3 harg3 arg4 harg4 arg5 harg5 arg6 harg6 arg7 harg7 h x3 x4)]
  exact View.canon_apply_of_pieces (fun y => scl x3 x4 (y 0) (y 1) (y 2) (y 3)) _
    (pb1_pieces Variants.none c none i arg1 harg1 arg2 harg2 arg3 harg3 arg4 harg4 arg5 harg5 arg6 harg6 arg7 harg7 h x3 x4 _ (le_refl _)) (ix4 w b p o) (Body.scrL_cover c i arg1 harg1 arg2 harg2 arg3 harg3 arg4 harg4 arg5 harg5 arg6 harg6 arg7 harg7 h x3 x4 (ix4 w b p o))

end Cert.KernelIdeal.Value

end
-- ==== Proof.Value.Array.lean ====
/- The windows' blocks of the kernel at an index, in terms of the arguments. -/
module

public import proofs.«01_k».proof.Proof.Value.Scales
public import proofs.«01_k».proof.Proof.KernelIdeal.Run
public import Idealize.ShloMosaic.Lib.Pipeline.ValueKit

@[expose] public section

set_option maxRecDepth 16384
set_option maxHeartbeats 2000000

noncomputable section

namespace Cert.KernelIdeal.Value

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem V_v0 : V m c main_v0 = shapeCast S128x5120 (m ((c.tc : Thread nD τ).loc main_arg0)) shapeCasts_S1x128x5120_S128x5120 := by
  show StableHlo.after (List.flatten [hostOps0]) (fun b => m (c, b)) (Proc.devRef .tc main_v0) = _
  simp only [List.flatten_cons, List.flatten_nil, List.append_nil]
  after_results
  rfl

theorem V_v1 : V m c main_v1 = transpose S108x32x5120 [1, 2, 0] (m ((c.tc : Thread nD τ).loc main_arg1)) transposes_S5120x108x32_S108x32x5120_1_2_0 := by
  show StableHlo.after (List.flatten [hostOps0]) (fun b => m (c, b)) (Proc.devRef .tc main_v1) = _
  simp only [List.flatten_cons, List.flatten_nil, List.append_nil]
  after_results

theorem V_v2 : V m c main_v2 = transpose S108x64x5120 [1, 2, 0] (m ((c.tc : Thread nD τ).loc main_arg2)) transposes_S5120x108x64_S108x64x5120_1_2_0 := by
  show StableHlo.after (List.flatten [hostOps0]) (fun b => m (c, b)) (Proc.devRef .tc main_v2) = _
  simp only [List.flatten_cons, List.flatten_nil, List.append_nil]
  after_results

theorem V_v3 : V m c main_v3 = transpose S12x108x5120 [2, 1, 0] (m ((c.tc : Thread nD τ).loc main_arg3)) transposes_S5120x108x12_S12x108x5120_2_1_0 := by
  show StableHlo.after (List.flatten [hostOps0]) (fun b => m (c, b)) (Proc.devRef .tc main_v3) = _
  simp only [List.flatten_cons, List.flatten_nil, List.append_nil]
  after_results

theorem V_v4 : V m c main_v4 = transpose S108x5120 [1, 0] (m ((c.tc : Thread nD τ).loc main_arg4)) transposes_S5120x108_S108x5120_1_0 := by
  show StableHlo.after (List.flatten [hostOps0]) (fun b => m (c, b)) (Proc.devRef .tc main_v4) = _
  simp only [List.flatten_cons, List.flatten_nil, List.append_nil]
  after_results

theorem e0 : ∀ t : Fin cfg0.N, win0_0.index t = ![0, 0] := (by decide +kernel : ∀ t : Fin grid0.N, _)
theorem e1 : ∀ t : Fin cfg0.N, win0_1.index t = ![t.val, 0, 0] := (by decide +kernel : ∀ t : Fin grid0.N, _)
theorem e2 : ∀ t : Fin cfg0.N, win0_2.index t = ![t.val, 0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, t.val] := (by decide +kernel : ∀ t : Fin grid0.N, _)
theorem co : ∀ t : Fin cfg0.N, (grid0.coords t 0).val = t.val := (by decide +kernel : ∀ t : Fin grid0.N, _)

theorem t_lt (t : Fin cfg0.N) : t.val < 27 := by have := t.isLt; have h : cfg0.N = 27 := N_0; omega

/-- The input blocks at their plain types. -/
abbrev b0 (t : Fin cfg0.N) : Vec Ideal S128x5120 .bf16 := iblk m c 0 t
abbrev b1 (t : Fin cfg0.N) : Vec Ideal S4x32x5120 .i8 := iblk m c 1 t
abbrev b2 (t : Fin cfg0.N) : Vec Ideal S4x64x5120 .i8 := iblk m c 2 t
abbrev b3 (t : Fin cfg0.N) : Vec Ideal S12x108x5120 .i8 := iblk m c 3 t
abbrev b4 (t : Fin cfg0.N) : Vec Ideal S108x5120 .f16 := iblk m c 4 t

theorem k0_key (X : Vec Ideal S1x128x5120 .bf16) (s : Fin 128) (o : Fin 5120) :
    shapeCast S128x5120 X shapeCasts_S1x128x5120_S128x5120 (ix2 s o) = X (ix3 0 s o) := by pointwise

theorem k1_key (X : Vec Ideal S5120x108x32 .i8) (b : Fin 108) (j : Fin 32) (o : Fin 5120) :
    transpose S108x32x5120 [1, 2, 0] X transposes_S5120x108x32_S108x32x5120_1_2_0 (ix3 b j o) = X (ix3 o b j) := by pointwise

theorem k2_key (X : Vec Ideal S5120x108x64 .i8) (b : Fin 108) (j : Fin 64) (o : Fin 5120) :
    transpose S108x64x5120 [1, 2, 0] X transposes_S5120x108x64_S108x64x5120_1_2_0 (ix3 b j o) = X (ix3 o b j) := by pointwise

theorem k3_key (X : Vec Ideal S5120x108x12 .i8) (j : Fin 12) (b : Fin 108) (o : Fin 5120) :
    transpose S12x108x5120 [2, 1, 0] X transposes_S5120x108x12_S12x108x5120_2_1_0 (ix3 j b o) = X (ix3 o b j) := by pointwise

theorem k4_key (X : Vec Ideal S5120x108 .f16) (b : Fin 108) (o : Fin 5120) :
    transpose S108x5120 [1, 0] X transposes_S5120x108_S108x5120_1_0 (ix2 b o) = X (ix2 o b) := by pointwise

theorem b0_apply (t : Fin cfg0.N) (s : Fin 128) (o : Fin 5120) :
    b0 m c t (ix2 s o) = m ((c.tc : Thread nD τ).loc main_arg0) (ix3 0 s o) := by
  have h : b0 m c t (ix2 s o) = V m c main_v0 ((win0_0.blk t).view.emb (ix2 s o)) := rfl
  have e : (win0_0.blk t).view.emb (ix2 s o) = ix2 s o := by blk_ext [e0]
  rw [h, e, V_v0]
  exact k0_key _ _ _

theorem b1_apply (t : Fin cfg0.N) (b : Fin 4) (j : Fin 32) (o : Fin 5120) :
    b1 m c t (ix3 b j o) = m ((c.tc : Thread nD τ).loc main_arg1) (ix3 o ⟨4 * t.val + b.val, by have := t_lt t; omega⟩ j) := by
  have h : b1 m c t (ix3 b j o) = V m c main_v1 ((win0_1.blk t).view.emb (ix3 b j o)) := rfl
  have e : (win0_1.blk t).view.emb (ix3 b j o) = ix3 (⟨4 * t.val + b.val, by have := t_lt t; omega⟩ : Fin 108) j o := by blk_ext [e1]
  rw [h, e, V_v1]
  exact k1_key _ _ _ _

theorem b2_apply (t : Fin cfg0.N) (b : Fin 4) (j : Fin 64) (o : Fin 5120) :
    b2 m c t (ix3 b j o) = m ((c.tc : Thread nD τ).loc main_arg2) (ix3 o ⟨4 * t.val + b.val, by have := t_lt t; omega⟩ j) := by
  have h : b2 m c t (ix3 b j o) = V m c main_v2 ((win0_2.blk t).view.emb (ix3 b j o)) := rfl
  have e : (win0_2.blk t).view.emb (ix3 b j o) = ix3 (⟨4 * t.val + b.val, by have := t_lt t; omega⟩ : Fin 108) j o := by blk_ext [e2]
  rw [h, e, V_v2]
  exact k2_key _ _ _ _

theorem b3_apply (t : Fin cfg0.N) (j : Fin 12) (b : Fin 108) (o : Fin 5120) :
    b3 m c t (ix3 j b o) = m ((c.tc : Thread nD τ).loc main_arg3) (ix3 o b j) := by
  have h : b3 m c t (ix3 j b o) = V m c main_v3 ((win0_3.blk t).view.emb (ix3 j b o)) := rfl
  have e : (win0_3.blk t).view.emb (ix3 j b o) = ix3 j b o := by blk_ext [e3]
  rw [h, e, V_v3]
  exact k3_key _ _ _ _

theorem b4_apply (t : Fin cfg0.N) (b : Fin 108) (o : Fin 5120) :
    b4 m c t (ix2 b o) = m ((c.tc : Thread nD τ).loc main_arg4) (ix2 o b) := by
  have h : b4 m c t (ix2 b o) = V m c main_v4 ((win0_4.blk t).view.emb (ix2 b o)) := rfl
  have e : (win0_4.blk t).view.emb (ix2 b o) = ix2 b o := by blk_ext [e4]
  rw [h, e, V_v4]
  exact k4_key _ _ _

end Cert.KernelIdeal.Value

end
-- ==== Proof.Value.Tie.lean ====
/- The kernel's product at a grid point, group and column is the reference's: the packed order of the rows, the factor
   two of the code against the half of the scale. -/
module

public import proofs.«01_k».proof.Proof.Value.Array
public import Idealize.ShloMosaic.Lib.IdealHost

@[expose] public section

set_option maxRecDepth 16384
set_option maxHeartbeats 2000000

noncomputable section

namespace Cert.KernelIdeal.Value

open Cert.KernelIdeal Cert.KernelIdeal.Gen
open Idealize.ShloMosaic Idealize.ShloMosaic.TcCoe Idealize.ShloMosaic.Tactic

/-- The kernel's constant one half. -/
theorem hf_eq : hf = (((1 / 2 : ℝ)) : EReal) := by
  show Ideal.ofBits .f32 0x3F000000#32 = _
  simp [Ideal.ofBits, Ideal.ieee, -EReal.coe_mul]; norm_num

theorem two_hf (q : ℤ) : ((((2 * q : ℤ) : ℝ)) : EReal) * hf = ((q : ℝ) : EReal) := by
  rw [hf_eq, ← EReal.coe_mul]
  congr 1
  push_cast
  ring

/-- Twice the code times the scale with its half is the code times the scale. -/
theorem prod_eq (q : ℤ) (x d sc : EReal) :
    x * (((((2 * q : ℤ) : ℝ)) : EReal) * ((d * hf) * sc)) = x * (((q : ℝ) : EReal) * (d * sc)) := by
  rw [← two_hf q, mul_comm d hf, mul_assoc hf d sc, mul_assoc]

/-- One product: of contraction row `k`, block `B`, the bytes at the places named. -/
def prod (x0 : Vec Ideal S1x128x5120 .bf16) (x1 : Vec Ideal S5120x108x32 .i8) (x2 : Vec Ideal S5120x108x64 .i8)
    (x3 : Vec Ideal S5120x108x12 .i8) (x4 : Vec Ideal S5120x108 .f16) (s : Fin 128) (k : Fin 5120)
    (B : Fin 108) (iq : Fin 64) (ih : Fin 32) (h j : ℕ) (i1 i2 : Fin 12) (u v : ℕ) : EReal :=
  x0 (ix3 0 s k) * ((((qz (x2 (ix3 k B iq)) (x1 (ix3 k B ih)) h j : ℤ) : ℝ) : EReal)
    * (x4 (ix2 k B) * (((scq (x3 (ix3 k B i1)) (x3 (ix3 k B i2)) (BitVec.ofNat 32 u) (BitVec.ofNat 32 v)).toInt : ℝ) : EReal)))

/-- The product at output column `y`. -/
def prodAt (x0 : Vec Ideal S1x128x5120 .bf16) (x1 : Vec Ideal S5120x108x32 .i8) (x2 : Vec Ideal S5120x108x64 .i8)
    (x3 : Vec Ideal S5120x108x12 .i8) (x4 : Vec Ideal S5120x108 .f16) (s : Fin 128) (y : Fin 27648) (k : Fin 5120) : EReal :=
  prod x0 x1 x2 x3 x4 s k ⟨y.val / 256, by omega⟩ ⟨y.val % 256 / 128 * 32 + y.val % 256 % 32, by omega⟩ ⟨y.val % 256 % 32, by omega⟩
    (y.val % 256 / 128) (y.val % 256 / 32 % 4) ⟨y.val % 256 / 16 % 8, by omega⟩ ⟨8 + y.val % 256 / 16 % 4, by omega⟩
    (4 * (y.val % 256 / 16 / 8)) (2 * (y.val % 256 / 16 / 4))

/-- The result at an index: the sum of the products over the contraction. -/
def res (x0 : Vec Ideal S1x128x5120 .bf16) (x1 : Vec Ideal S5120x108x32 .i8) (x2 : Vec Ideal S5120x108x64 .i8)
    (x3 : Vec Ideal S5120x108x12 .i8) (x4 : Vec Ideal S5120x108 .f16) (s : Fin 128) (y : Fin 27648) : EReal :=
  ∑ k : Fin 5120, prodAt x0 x1 x2 x3 x4 s y k

theorem prod_congr (x0 : Vec Ideal S1x128x5120 .bf16) (x1 : Vec Ideal S5120x108x32 .i8) (x2 : Vec Ideal S5120x108x64 .i8)
    (x3 : Vec Ideal S5120x108x12 .i8) (x4 : Vec Ideal S5120x108 .f16) (s : Fin 128) (k : Fin 5120)
    {B B' : Fin 108} {iq iq' : Fin 64} {ih ih' : Fin 32} {h h' j j' : ℕ} {i1 i1' i2 i2' : Fin 12} {u u' v v' : ℕ}
    (eB : B.val = B'.val) (eq : iq.val = iq'.val) (eh : ih.val = ih'.val) (e1 : h = h') (e2 : j = j') (e3 : i1.val = i1'.val)
    (e4 : i2.val = i2'.val) (e5 : u = u') (e6 : v = v') :
    prod x0 x1 x2 x3 x4 s k B iq ih h j i1 i2 u v = prod x0 x1 x2 x3 x4 s k B' iq' ih' h' j' i1' i2' u' v' := by
  obtain rfl := Fin.ext eB
  obtain rfl := Fin.ext eq
  obtain rfl := Fin.ext eh
  obtain rfl := Fin.ext e3
  obtain rfl := Fin.ext e4
  subst e1 e2 e5 e6
  rfl

variable (m : (ℓ : Loc nD τ sig) → Buf (Elt Ideal) ℓ) (c : Dev nD)

theorem scr_apply (w : Fin 8) (b : Fin 108) (p : Fin 2) (o : Fin 5120) :
    Body.scr m c (ix4 w b p o) = scl (b3 m c ⟨0, Body.N_pos⟩) (b4 m c ⟨0, Body.N_pos⟩) w b p o := by
  unfold Body.scr
  rw [scrB_apply]

/-- The row of column `n` of a block. -/
def rowOf (n : ℕ) : ℕ := 128 * (n / 128) + src (n % 128)

theorem places_fin : ∀ n : Fin 256,
    32 * (rowOf n.val / 128) + rowOf n.val % 64 / 2 = n.val / 128 * 32 + n.val % 32 ∧ rowOf n.val % 64 / 2 = n.val % 32 ∧ rowOf n.val / 128 = n.val / 128
    ∧ 2 * (rowOf n.val % 2) + rowOf n.val / 64 % 2 = n.val / 32 % 4 ∧ rowOf n.val / 32 % 4 + 4 * (rowOf n.val % 2) = n.val / 16 % 8
    ∧ 8 + rowOf n.val / 32 % 4 = 8 + n.val / 16 % 4 ∧ 4 * (rowOf n.val / 32 / 4) = 4 * (n.val / 16 / 8)
    ∧ 4 * (rowOf n.val / 32 / 4) + 2 * (rowOf n.val % 2) = 2 * (n.val / 16 / 4) := by
  decide +kernel

/-- The row's places, in its column's. -/
theorem places (col ρ : ℕ) (hρ : ρ = 128 * (col / 128 % 2) + src (col % 128)) :
    32 * (ρ / 128) + ρ % 64 / 2 = col % 256 / 128 * 32 + col % 256 % 32 ∧ ρ % 64 / 2 = col % 256 % 32 ∧ ρ / 128 = col % 256 / 128
    ∧ 2 * (ρ % 2) + ρ / 64 % 2 = col % 256 / 32 % 4 ∧ ρ / 32 % 4 + 4 * (ρ % 2) = col % 256 / 16 % 8
    ∧ 8 + ρ / 32 % 4 = 8 + col % 256 / 16 % 4 ∧ 4 * (ρ / 32 / 4) = 4 * (col % 256 / 16 / 8)
    ∧ 4 * (ρ / 32 / 4) + 2 * (ρ % 2) = 2 * (col % 256 / 16 / 4) := by
  have e : ρ = rowOf (col % 256) := by
    unfold rowOf
    rw [hρ, show col / 128 % 2 = col % 256 / 128 by omega, show col % 128 = col % 256 % 128 by omega]
  rw [e]
  exact places_fin ⟨col % 256, by omega⟩

theorem term_eq (t : Fin cfg0.N) (s : Fin 128) (col : Fin 1024) (y : Fin 27648) (hy : y.val = 1024 * t.val + col.val) (k : Fin 5120)
    (n : Fin 27) (hn : n.val = t.val) (ρ : Fin 256) (hρ : ρ.val = 128 * (col.val / 128 % 2) + src (col.val % 128)) :
    term (b0 m c t) (b1 m c t) (b2 m c t) (Body.scr m c) n ⟨col.val / 256, by omega⟩ s ρ k.val
      = prodAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) s y k := by
  have ht := t_lt t
  obtain ⟨p1, p2, p3, p4, p5, p6, p7, p8⟩ := places col.val ρ.val hρ
  have hm : y.val % 256 = col.val % 256 := by omega
  rw [← hm] at p1 p2 p3 p4 p5 p6 p7 p8
  unfold term
  rw [dif_pos k.isLt]
  unfold kw
  rw [b0_apply, b1_apply, b2_apply, scr_apply]
  unfold scl
  rw [b3_apply, b3_apply, b4_apply, prod_eq]
  have eB : 4 * t.val + col.val / 256 = y.val / 256 := by omega
  have eB' : 4 * n.val + col.val / 256 = y.val / 256 := by omega
  have fB : (⟨4 * t.val + col.val / 256, by omega⟩ : Fin 108) = ⟨4 * n.val + col.val / 256, by omega⟩ :=
    Fin.ext (show 4 * t.val + col.val / 256 = 4 * n.val + col.val / 256 by rw [hn])
  unfold prodAt
  dsimp only
  rw [fB]
  exact prod_congr _ _ _ _ _ s k eB' p1 p2 p3 p4
    p5 p6 p7 p8

/-- The output block of point `t` at an index. -/
theorem blk_eq (t : Fin cfg0.N) (s : Fin 128) (col : Fin 1024) (y : Fin 27648) (hy : y.val = 1024 * t.val + col.val) (n : Fin 27) (hn : n.val = t.val) :
    blk (b0 m c t) (b1 m c t) (b2 m c t) (Body.scr m c) n s col
      = res (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) s y := by
  unfold blk res
  rw [Finset.sum_range]
  exact Finset.sum_congr rfl fun k _ => term_eq m c t s col y hy k n hn _ rfl

end Cert.KernelIdeal.Value

end
-- ==== Proof.Value.Result.lean ====
/- The kernel's run: its result at every index is the sum over the contraction. -/
module

public import proofs.«01_k».proof.Proof.Value.Tie

@[expose] public section

set_option maxRecDepth 16384
set_option maxHeartbeats 2000000

noncomputable section

namespace Cert.KernelIdeal.Value

open Cert.KernelIdeal Cert.KernelIdeal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg) (c : Dev nD)

/-- The result on core `c`'s arguments, at an index. -/
def resAt (s : Fin 128) (y : Fin 27648) : EReal :=
  res (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) s y

theorem out_at (t : Fin cfg0.N) (s : Fin 128) (col : Fin 1024) (y : Fin 27648) (hy : y.val = 1024 * t.val + col.val) :
    Body.out m c t (ix2 s col) = resAt m c s y := by
  unfold Body.out
  rw [outB_apply]
  exact blk_eq m c t s col y hy (grid0.coords t 0) (co t)

/-- The output array at its end. -/
def arr : Vec Ideal S128x27648 .bf16 := fun i => resAt m c (i 0) (i 1)

theorem arr_eq : (Body.dats m 0 c).arrAt 5 cfg0.N = arr m c := by
  refine (Body.dats m 0 c).arrAt_eq_of_covers 5 _ (by decide +kernel) fun t hf y => ?_
  rw [eq_ix2 (n0 := 128) (n1 := 1024) y]
  blk_simp
  rw [Body.after0_5]
  have key : ∀ (s : Fin 128) (col : Fin 1024), Body.out m c t (ix2 s col) = arr m c ((win0_5.blk t).view.emb (ix2 s col)) := by
    intro s col
    have ht := t_lt t
    have e : (win0_5.blk t).view.emb (ix2 s col) = ix2 s (⟨1024 * t.val + col.val, by omega⟩ : Fin 27648) := by blk_ext [e5]
    rw [e]
    exact out_at m c t s col _ rfl
  exact key _ _

/-- The program's result. -/
def result : Vec Ideal S1x128x27648 .bf16 := shapeCast S1x128x27648 (arr m c) shapeCasts_S128x27648_S1x128x27648

theorem tail_eq : Pipeline.afterTail₀ cfgs (Body.dats m) 0 (V0 m) [hostOps1] c main_v6 = result m c := by
  unfold Pipeline.afterTail₀
  simp only [List.flatten_cons, List.flatten_nil, List.append_nil]
  after_results
  have h := (Pipeline.withArrays_arr spec0 launch0.win.arr_inj c (V0 m c) (fun w => (Body.dats m 0 c).arrAt w cfg0.N) 5).trans (arr_eq m c)
  exact congrArg (fun X => shapeCast S1x128x27648 X shapeCasts_S128x27648_S1x128x27648) h

theorem cast_apply (X : Vec Ideal S128x27648 .bf16) (s : Fin 128) (y : Fin 27648) :
    shapeCast S1x128x27648 X shapeCasts_S128x27648_S1x128x27648 (ix3 0 s y) = X (ix2 s y) := by pointwise

theorem result_apply (s : Fin 128) (y : Fin 27648) : result m c (ix3 0 s y) = resAt m c s y := by
  unfold result
  rw [cast_apply]
  rfl

/-- The kernel's run: its result is `result`, its arguments are unchanged. -/
theorem run : θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v6 (Pipeline.mem_restRefs_of main_v6 (by decide) (by decide))).trans (tail_eq m c),
      (((h c).2 main_arg0 (Pipeline.mem_restRefs_of main_arg0 (by decide) (by decide))).trans (W_main_arg0 m (Body.dats m) c)),
      (((h c).2 main_arg1 (Pipeline.mem_restRefs_of main_arg1 (by decide) (by decide))).trans (W_main_arg1 m (Body.dats m) c)),
      (((h c).2 main_arg2 (Pipeline.mem_restRefs_of main_arg2 (by decide) (by decide))).trans (W_main_arg2 m (Body.dats m) c)),
      (((h c).2 main_arg3 (Pipeline.mem_restRefs_of main_arg3 (by decide) (by decide))).trans (W_main_arg3 m (Body.dats m) c)),
      (((h c).2 main_arg4 (Pipeline.mem_restRefs_of main_arg4 (by decide) (by decide))).trans (W_main_arg4 m (Body.dats m) c))⟩) (Body.run_main m ρ)

end Cert.KernelIdeal.Value

end
-- ==== Proof.Value.Ref.lean ====
/- The reference at an index: the same groups' codes and scales, and the sum over the contraction. -/
module

public import proofs.«01_k».proof.Proof.Gen.ReferenceIdeal.Read
public import proofs.«01_k».proof.Proof.Value.Scratch

@[expose] public section

set_option maxRecDepth 16384
set_option maxHeartbeats 2000000

noncomputable section

namespace Cert.ReferenceIdeal.Ref

open Cert.ReferenceIdeal Cert.ReferenceIdeal.Gen Cert.ReferenceIdeal.Read
open Idealize.ShloMosaic Idealize.ShloMosaic.TcCoe Idealize.ShloMosaic.Tactic

/-- A shift by less than the width is the same word on either unit. -/
theorem shr_unit (x a : BitVec 32) (h : a.toNat < 32) : IntOp.shrsi .host x a = IntOp.shrsi .vector x a := by
  unfold IntOp.shrsi
  rw [if_pos h, if_pos h]

theorem shl_unit (x a : BitVec 32) (h : a.toNat < 32) : IntOp.shli .host x a = IntOp.shli .vector x a := by
  unfold IntOp.shli
  rw [if_pos h, if_pos h]

/-- The low two bits of a code. -/
theorem low_bits : ∀ (j : Fin 4) (q : Fin 256), IntOp.andi (IntOp.shrsi .host (BitVec.setWidth 32 (BitVec.ofFin (w := 8) q)) (IntOp.muli 2#32 (BitVec.ofNat 32 j.val))) 3#32
    = ((if (BitVec.ofFin (w := 8) q).getLsbD (2 * j.val) then 1#32 else 0#32) ||| (if (BitVec.ofFin (w := 8) q).getLsbD (2 * j.val + 1) then 2#32 else 0#32)) := by
  decide +kernel

/-- The high bit of a code. -/
theorem high_bit : ∀ (h : Fin 2) (j : Fin 4) (q : Fin 256), IntOp.andi (IntOp.shrsi .host (BitVec.setWidth 32 (BitVec.ofFin (w := 8) q))
      (IntOp.addi (IntOp.muli 4#32 (BitVec.ofNat 32 h.val)) (BitVec.ofNat 32 j.val))) 1#32
    = (if (BitVec.ofFin (w := 8) q).getLsbD (4 * h.val + j.val) then 1#32 else 0#32) := by
  decide +kernel

/-- The shifts of the two scale bytes. -/
theorem shift_low : ∀ g : Fin 16, IntOp.muli 4#32 (IntOp.shrsi .host (BitVec.ofNat 32 g.val) 3#32) = BitVec.ofNat 32 (4 * (g.val / 8))
    ∧ (BitVec.ofNat 32 (4 * (g.val / 8))).toNat < 32 := by decide +kernel
theorem shift_high : ∀ g : Fin 16, IntOp.muli 2#32 (IntOp.shrsi .host (BitVec.ofNat 32 g.val) 2#32) = BitVec.ofNat 32 (2 * (g.val / 4))
    ∧ (BitVec.ofNat 32 (2 * (g.val / 4))).toNat < 32 := by decide +kernel

theorem code_apply (x1 : Vec Ideal S5120x108x32 .i8) (x2 : Vec Ideal S5120x108x64 .i8) (o : Fin 5120) (b : Fin 108) (n : Fin 256) :
    val_main_v68 (F := Ideal) x1 x2 (ix3 o b n)
      = (((Cert.KernelIdeal.Value.qz (x2 (ix3 o b ⟨n.val / 128 * 32 + n.val % 32, by omega⟩)) (x1 (ix3 o b ⟨n.val % 32, by omega⟩)) (n.val / 128) (n.val / 32 % 4) : ℤ) : ℝ) : EReal) := by
  unfold val_main_v68 val_main_v67 val_main_v66 val_main_v65 val_main_v64 val_main_v63 val_main_v62 val_main_v61 val_main_v60 val_main_v59 val_main_v58 val_main_v57
    val_main_v56 val_main_v55 val_main_v54 val_main_v53 val_main_v52 val_main_v51 val_main_v50 val_main_v49 val_main_v48 val_main_v47 val_main_v46 val_main_v45 val_main_v44
    val_main_v43 val_main_v42 val_main_v41 val_main_v40 val_main_v39 val_main_v38 val_main_v37 val_main_v36 val_main_v35 val_main_c_7 val_main_c_8 val_main_c_9 val_main_c_10 val_main_c_11 val_main_c_12
  pointwise
  have e1 := low_bits ⟨n.val / 32 % 4, by omega⟩ (x2 (ix3 o b ⟨n.val / 128 * 32 + n.val % 32, by omega⟩)).toFin
  have e2 := high_bit ⟨n.val / 128, by omega⟩ ⟨n.val / 32 % 4, by omega⟩ (x1 (ix3 o b ⟨n.val % 32, by omega⟩)).toFin
  dsimp only at e1 e2
  rw [e1, e2]
  rfl

theorem scale_apply (x3 : Vec Ideal S5120x108x12 .i8) (r0 : Vec Ideal S5120x108 .f32) (o : Fin 5120) (b : Fin 108) (g : Fin 16) :
    val_main_v34 (F := Ideal) x3 r0 (ix3 o b g)
      = r0 (ix2 o b) * (((Cert.KernelIdeal.Value.scq (x3 (ix3 o b ⟨g.val % 8, by omega⟩)) (x3 (ix3 o b ⟨8 + g.val % 4, by omega⟩))
          (BitVec.ofNat 32 (4 * (g.val / 8))) (BitVec.ofNat 32 (2 * (g.val / 4)))).toInt : ℝ) : EReal) := by
  unfold val_main_v34 val_main_v33 val_main_v32 val_main_v31 val_main_v30 val_main_v29 val_main_v28 val_main_v27 val_main_v26 val_main_v25 val_main_v24 val_main_v23 val_main_v22 val_main_v21 val_main_v20
    val_main_v19 val_main_v18 val_main_v17 val_main_v16 val_main_v15 val_main_v14 val_main_v13 val_main_v12 val_main_v11 val_main_v10 val_main_v9 val_main_v8 val_main_v7 val_main_v6 val_main_v5 val_main_v4
    val_main_v3 val_main_v2 val_main_v1 val_main_c val_main_c_0 val_main_c_1 val_main_c_2 val_main_c_3 val_main_c_4 val_main_c_5 val_main_c_6
  pointwise
  have el : (if h : g.val < 8 then BitVec.setWidth 32 (x3 (ix3 o b ⟨g.val, by omega⟩)) else BitVec.setWidth 32 (x3 (ix3 o b ⟨g.val - 8, by omega⟩)))
      = BitVec.setWidth 32 (x3 (ix3 o b ⟨g.val % 8, by omega⟩)) := by
    split_ifs with h
    · exact congrArg (fun t => BitVec.setWidth 32 (x3 (ix3 o b t))) (Fin.ext (by show g.val = g.val % 8; omega))
    · exact congrArg (fun t => BitVec.setWidth 32 (x3 (ix3 o b t))) (Fin.ext (by show g.val - 8 = g.val % 8; omega))
  have eh : (if h : g.val < 4 then BitVec.setWidth 32 (x3 (ix3 o b ⟨8 + g.val, by omega⟩)) else
        if h : g.val - 4 < 4 then BitVec.setWidth 32 (x3 (ix3 o b ⟨8 + (g.val - 4), by omega⟩)) else
        if h : g.val - 4 - 4 < 4 then BitVec.setWidth 32 (x3 (ix3 o b ⟨8 + (g.val - 4 - 4), by omega⟩)) else
        BitVec.setWidth 32 (x3 (ix3 o b ⟨8 + (g.val - 4 - 4 - 4), by omega⟩)))
      = BitVec.setWidth 32 (x3 (ix3 o b ⟨8 + g.val % 4, by omega⟩)) := by
    split_ifs with h h' h''
    · exact congrArg (fun t => BitVec.setWidth 32 (x3 (ix3 o b t))) (Fin.ext (by show 8 + g.val = 8 + g.val % 4; omega))
    · exact congrArg (fun t => BitVec.setWidth 32 (x3 (ix3 o b t))) (Fin.ext (by show 8 + (g.val - 4) = 8 + g.val % 4; omega))
    · exact congrArg (fun t => BitVec.setWidth 32 (x3 (ix3 o b t))) (Fin.ext (by show 8 + (g.val - 4 - 4) = 8 + g.val % 4; omega))
    · exact congrArg (fun t => BitVec.setWidth 32 (x3 (ix3 o b t))) (Fin.ext (by show 8 + (g.val - 4 - 4 - 4) = 8 + g.val % 4; omega))
  rw [el, eh, (shift_low g).1, (shift_high g).1, shr_unit _ _ (shift_low g).2, shr_unit _ _ (shift_high g).2, shl_unit _ 4#32 (by decide)]
  rfl

theorem spread_apply (x3 : Vec Ideal S5120x108x12 .i8) (r0 : Vec Ideal S5120x108 .f32) (o : Fin 5120) (b : Fin 108) (n : Fin 256) :
    val_main_v70 (F := Ideal) x3 r0 (ix3 o b n) = val_main_v34 (F := Ideal) x3 r0 (ix3 o b ⟨n.val / 16, by omega⟩) := by
  unfold val_main_v70 val_main_v69
  pointwise

theorem out_apply (x0 : Vec Ideal S1x128x5120 .bf16) (x1 : Vec Ideal S5120x108x32 .i8) (x2 : Vec Ideal S5120x108x64 .i8) (x3 : Vec Ideal S5120x108x12 .i8) (r0 : Vec Ideal S5120x108 .f32)
    (s : Fin 128) (y : Fin 27648) :
    val_main_v74 (F := Ideal) x0 x1 x2 x3 r0 (ix3 0 s y) = ∑ k : Fin 5120, x0 (ix3 0 s k)
      * ((((Cert.KernelIdeal.Value.qz (x2 (ix3 k ⟨y.val / 256, by omega⟩ ⟨y.val % 256 / 128 * 32 + y.val % 256 % 32, by omega⟩))
            (x1 (ix3 k ⟨y.val / 256, by omega⟩ ⟨y.val % 256 % 32, by omega⟩)) (y.val % 256 / 128) (y.val % 256 / 32 % 4) : ℤ) : ℝ) : EReal)
        * (r0 (ix2 k ⟨y.val / 256, by omega⟩)
          * (((Cert.KernelIdeal.Value.scq (x3 (ix3 k ⟨y.val / 256, by omega⟩ ⟨y.val % 256 / 16 % 8, by omega⟩)) (x3 (ix3 k ⟨y.val / 256, by omega⟩ ⟨8 + y.val % 256 / 16 % 4, by omega⟩))
            (BitVec.ofNat 32 (4 * (y.val % 256 / 16 / 8))) (BitVec.ofNat 32 (2 * (y.val % 256 / 16 / 4)))).toInt : ℝ) : EReal))) := by
  rw [val_main_v74_apply, val_main_v73_apply, val_main_v72_apply]
  refine Finset.sum_congr rfl fun k _ => ?_
  have hy := y.isLt
  have hs := s.isLt
  have el : lidx_main_v72 (idx_main_v73 (ix3 0 s y)) k = ix3 0 s k := by
    funext a
    match a with
    | ⟨0, _⟩ => exact Fin.ext rfl
    | ⟨1, _⟩ => exact Fin.ext (by show ((0 * 128 + s.val) * 27648 + y.val) / 27648 % 128 = s.val; omega)
    | ⟨2, _⟩ => rfl
  have er : ridx_main_v72 (idx_main_v73 (ix3 0 s y)) k = ix3 k ⟨y.val / 256, by omega⟩ ⟨y.val % 256, by omega⟩ := by
    funext a
    match a with
    | ⟨0, _⟩ => rfl
    | ⟨1, _⟩ => exact Fin.ext (by show ((0 * 128 + s.val) * 27648 + y.val) / 256 % 108 = y.val / 256; omega)
    | ⟨2, _⟩ => exact Fin.ext (by show ((0 * 128 + s.val) * 27648 + y.val) % 256 = y.val % 256; omega)
  rw [el, er, val_main_v71_apply, code_apply, spread_apply, scale_apply]
  rfl

end Cert.ReferenceIdeal.Ref

end
-- ==== Proof.Value.RefRun.lean ====
/- The reference's run: what its widening leaves is the scales as they are, and its result the sum at every index. -/
module

public import proofs.«01_k».proof.Proof.Value.Ref
public import proofs.«01_k».proof.Proof.Gen.ReferenceIdeal.Run
public import Idealize.ShloMosaic.Lib.Pipeline.ValueKit

@[expose] public section

set_option maxRecDepth 16384
set_option maxHeartbeats 2000000

noncomputable section

namespace Cert.ReferenceIdeal.Ref

open Cert.ReferenceIdeal Cert.ReferenceIdeal.Gen Cert.ReferenceIdeal.Read
open Idealize.ShloMosaic Idealize.ShloMosaic.TcCoe Idealize.ShloMosaic.Tactic Idealize.SL.Sem

variable (m : (ℓ : Loc nD τ sig) → Buf (Elt Ideal) ℓ) (c : Dev nD)

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)

theorem widen_apply (X : Vec Ideal S5120x108 .f16) (x : Fin 5120) (y : Fin 108) : out0_1 (F := Ideal) X (ix2 x y) = X (ix2 x y) := by
  unfold out0_1
  rw [View.canon_unit_zero (by funext a; fin_cases a <;> rfl)]
  unfold k0_pay1
  pointwise

theorem reg_eq : Value.reg_main_v0 m c = (fun i => m ((c.tc : Thread nD τ).loc main_arg4) i) := by
  unfold Value.reg_main_v0
  refine (dats m 0 c).arrAt_eq_of_covers 1 _ (by decide +kernel) fun t hf y => ?_
  rw [eq_ix2 (n0 := 5120) (n1 := 108) y]
  blk_simp
  rw [after0_1]
  have h : ∀ (x : Fin 5120) (y : Fin 108), out0_1 (F := Ideal) (iblk m c 0 t) (ix2 x y) = V m c main_arg4 ((win0_0.blk t).view.emb (ix2 x y)) := fun x y => widen_apply _ x y
  have e : ∀ (x : Fin 5120) (y : Fin 108), (win0_0.blk t).view.emb (ix2 x y) = (win0_1.blk t).view.emb (ix2 x y) := fun x y => by blk_ext [e0, e1]
  refine (h _ _).trans ?_
  rw [V_main_arg4]
  exact congrArg _ (e _ _)

/-- The reference's value at what the widening leaves is its value on the arguments. -/
theorem exit_eq : val_main_v74 (F := Ideal) (Value.exitV m c (Proc.devRef .tc main_arg0)) (Value.exitV m c (Proc.devRef .tc main_arg1))
      (Value.exitV m c (Proc.devRef .tc main_arg2)) (Value.exitV m c (Proc.devRef .tc main_arg3)) (Value.exitV m c (Proc.devRef .tc main_v0))
    = val_main_v74 (F := Ideal) (m ((c.tc : Thread nD τ).loc main_arg0)) (m ((c.tc : Thread nD τ).loc main_arg1))
        (m ((c.tc : Thread nD τ).loc main_arg2)) (m ((c.tc : Thread nD τ).loc main_arg3)) (fun i => m ((c.tc : Thread nD τ).loc main_arg4) i) := by
  rw [Value.exit_main_arg0, Value.exit_main_arg1, Value.exit_main_arg2, Value.exit_main_arg3, Value.exit_main_v0, reg_eq]
  rfl

/-- The reference's run: its result is its value on the arguments, which are unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v74) = val_main_v74 (F := Ideal) (m ((c.tc : Thread nD τ).loc main_arg0)) (m ((c.tc : Thread nD τ).loc main_arg1))
          (m ((c.tc : Thread nD τ).loc main_arg2)) (m ((c.tc : Thread nD τ).loc main_arg3)) (fun i => m ((c.tc : Thread nD τ).loc main_arg4) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1.trans (val_main_v74_eq (Value.exitV m c))).trans (exit_eq m c), (h c).2⟩) (Value.run m ρ)

end Cert.ReferenceIdeal.Ref

end
-- ==== Proof.Algebraic.lean ====
/- The value claim: the kernel's result is the reference's, element by element. -/
module

public import proofs.«01_k».proof.Defs
public import proofs.«01_k».proof.Proof.Gen.KernelIdeal
public import proofs.«01_k».proof.Proof.Gen.ReferenceIdeal
public import proofs.«01_k».proof.Proof.Gen.ReferenceIdeal.Read
public import proofs.«01_k».proof.Proof.Gen.ReferenceIdeal.Run
public import proofs.«01_k».proof.Proof.Value.Result
public import proofs.«01_k».proof.Proof.Value.RefRun

@[expose] public section

set_option maxRecDepth 16384
set_option maxHeartbeats 2000000

noncomputable section

namespace Cert.Proof

open Idealize.ShloMosaic Idealize.ShloMosaic.TcCoe Idealize.SL.Sem

/-- The reference's value is the kernel's result on the same arguments. -/
theorem value_eq (m : (ℓ : Loc Cert.KernelIdeal.nD Cert.KernelIdeal.τ Cert.KernelIdeal.sig) → Buf (Elt Ideal) ℓ) (c : Dev Cert.KernelIdeal.nD) :
    Cert.ReferenceIdeal.Read.val_main_v74 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (fun i => m ((c.tc : Thread Cert.KernelIdeal.nD Cert.KernelIdeal.τ).loc Cert.KernelIdeal.main_arg4) i)
      = Cert.KernelIdeal.Value.result m c := by
  funext i
  have key : ∀ (z : Fin 1) (s : Fin 128) (y : Fin 27648),
      Cert.ReferenceIdeal.Read.val_main_v74 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (fun i => m ((c.tc : Thread Cert.KernelIdeal.nD Cert.KernelIdeal.τ).loc Cert.KernelIdeal.main_arg4) i) (ix3 z s y)
      = Cert.KernelIdeal.Value.result m c (ix3 z s y) := by
    intro z s y
    obtain rfl : z = 0 := Fin.ext (by omega)
    refine (Cert.ReferenceIdeal.Ref.out_apply _ _ _ _ _ s y).trans ?_
    rw [Cert.KernelIdeal.Value.result_apply]
    rfl
  have e : i = ix3 (n0 := 1) (n1 := 128) (n2 := 27648) (i 0) (i 1) (i 2) := by
    funext a; match a with
    | ⟨0, _⟩ => rfl
    | ⟨1, _⟩ => rfl
    | ⟨2, _⟩ => rfl
  rw [e]
  exact key _ _ _

theorem algebraic : Cert.algebraic_KernelIdeal_ReferenceIdeal := by
  intro m g m' g' _ hargs
  refine ⟨fun c => Cert.KernelIdeal.Value.result m c, Cert.KernelIdeal.Value.run m g, ?_⟩
  refine (θ_run Cert.ReferenceIdeal.defs _ _).mono (fun _ h c => ⟨?_, (h c).2⟩) (Cert.ReferenceIdeal.Ref.run m' g')
  refine (h c).1.trans ?_
  obtain ⟨h0, h1, h2, h3, h4⟩ := hargs c
  rw [h0, h1, h2, h3, h4]
  exact value_eq m c

end Cert.Proof

end
-- ==== Proof.lean ====
/- The proof of the certificate's claim: the frames of the kernel, of its idealization and of the reference, what the
   idealization preserves, and the equality of the idealized kernel's result with the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Run
public import proofs.«01_k».proof.Proof.KernelIdeal.Run
public import proofs.«01_k».proof.Proof.Preserves
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ,
  fun m ρ _ => Cert.ReferenceIdeal.Gen.frame m ρ, Cert.Proof.preserves, Cert.Proof.algebraic⟩

end Cert.Proof

end
